-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v25)) (v1 : (c : Dev Cert.ProjectIdeal.nD) → Buf (Elt Ideal) ((c.tc : Thread Cert.ProjectIdeal.nD Cert.ProjectIdeal.τ).loc Cert.ProjectIdeal.main_v26)) (v2 : (c : Dev Cert.ProjectIdeal.nD) → Buf (Elt Ideal) ((c.tc : Thread Cert.ProjectIdeal.nD Cert.ProjectIdeal.τ).loc Cert.ProjectIdeal.main_v24)) (v3 : (c : Dev Cert.ProjectIdeal.nD) → Buf (Elt Ideal) ((c.tc : Thread Cert.ProjectIdeal.nD Cert.ProjectIdeal.τ).loc Cert.ProjectIdeal.main_v22_0)) (v4 : (c : Dev Cert.ProjectIdeal.nD) → Buf (Elt Ideal) ((c.tc : Thread Cert.ProjectIdeal.nD Cert.ProjectIdeal.τ).loc Cert.ProjectIdeal.main_v22_1)) (v5 : (c : Dev Cert.ProjectIdeal.nD) → Buf (Elt Ideal) ((c.tc : Thread Cert.ProjectIdeal.nD Cert.ProjectIdeal.τ).loc Cert.ProjectIdeal.main_v27)) (v6 : (c : Dev Cert.ProjectIdeal.nD) → Buf (Elt Ideal) ((c.tc : Thread Cert.ProjectIdeal.nD Cert.ProjectIdeal.τ).loc Cert.ProjectIdeal.main_v22_7)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v25) = v0 c
          ∧ r.2.mem ((c.tc : Thread Cert.ProjectIdeal.nD Cert.ProjectIdeal.τ).loc Cert.ProjectIdeal.main_v26) = v1 c
          ∧ r.2.mem ((c.tc : Thread Cert.ProjectIdeal.nD Cert.ProjectIdeal.τ).loc Cert.ProjectIdeal.main_v24) = v2 c
          ∧ r.2.mem ((c.tc : Thread Cert.ProjectIdeal.nD Cert.ProjectIdeal.τ).loc Cert.ProjectIdeal.main_v22_0) = v3 c
          ∧ r.2.mem ((c.tc : Thread Cert.ProjectIdeal.nD Cert.ProjectIdeal.τ).loc Cert.ProjectIdeal.main_v22_1) = v4 c
          ∧ r.2.mem ((c.tc : Thread Cert.ProjectIdeal.nD Cert.ProjectIdeal.τ).loc Cert.ProjectIdeal.main_v27) = v5 c
          ∧ r.2.mem ((c.tc : Thread Cert.ProjectIdeal.nD Cert.ProjectIdeal.τ).loc Cert.ProjectIdeal.main_v22_7) = v6 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v46) = v0 c
          ∧ r.2.mem ((c.tc : Thread Cert.ProjectRefIdeal.nD Cert.ProjectRefIdeal.τ).loc Cert.ProjectRefIdeal.main_v47) = v1 c
          ∧ r.2.mem ((c.tc : Thread Cert.ProjectRefIdeal.nD Cert.ProjectRefIdeal.τ).loc Cert.ProjectRefIdeal.main_v66) = v2 c
          ∧ r.2.mem ((c.tc : Thread Cert.ProjectRefIdeal.nD Cert.ProjectRefIdeal.τ).loc Cert.ProjectRefIdeal.main_v67) = v3 c
          ∧ r.2.mem ((c.tc : Thread Cert.ProjectRefIdeal.nD Cert.ProjectRefIdeal.τ).loc Cert.ProjectRefIdeal.main_v68) = v4 c
          ∧ r.2.mem ((c.tc : Thread Cert.ProjectRefIdeal.nD Cert.ProjectRefIdeal.τ).loc Cert.ProjectRefIdeal.main_v69) = v5 c
          ∧ r.2.mem ((c.tc : Thread Cert.ProjectRefIdeal.nD Cert.ProjectRefIdeal.τ).loc Cert.ProjectRefIdeal.main_v70) = v6 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v16)) (v1 : (c : Dev Cert.MemoryIdeal.nD) → Buf (Elt Ideal) ((c.tc : Thread Cert.MemoryIdeal.nD Cert.MemoryIdeal.τ).loc Cert.MemoryIdeal.main_v17)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v16) = v0 c
          ∧ r.2.mem ((c.tc : Thread Cert.MemoryIdeal.nD Cert.MemoryIdeal.τ).loc Cert.MemoryIdeal.main_v17) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v29) = v0 c
          ∧ r.2.mem ((c.tc : Thread Cert.MemoryRefIdeal.nD Cert.MemoryRefIdeal.τ).loc Cert.MemoryRefIdeal.main_v30) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)) →
    ∃ (v0 : (c : Dev Cert.SampleIdeal.nD) → Buf (Elt Ideal) ((c.tc : Thread Cert.SampleIdeal.nD Cert.SampleIdeal.τ).loc Cert.SampleIdeal.main_v26)) (v1 : (c : Dev Cert.SampleIdeal.nD) → Buf (Elt Ideal) ((c.tc : Thread Cert.SampleIdeal.nD Cert.SampleIdeal.τ).loc Cert.SampleIdeal.main_v27)) (v2 : (c : Dev Cert.SampleIdeal.nD) → Buf (Elt Ideal) ((c.tc : Thread Cert.SampleIdeal.nD Cert.SampleIdeal.τ).loc Cert.SampleIdeal.main_v25)) (v3 : (c : Dev Cert.SampleIdeal.nD) → Buf (Elt Ideal) ((c.tc : Thread Cert.SampleIdeal.nD Cert.SampleIdeal.τ).loc Cert.SampleIdeal.main_v22_1)) (v4 : (c : Dev Cert.SampleIdeal.nD) → Buf (Elt Ideal) ((c.tc : Thread Cert.SampleIdeal.nD Cert.SampleIdeal.τ).loc Cert.SampleIdeal.main_v22_4)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v26) = v0 c
          ∧ r.2.mem ((c.tc : Thread Cert.SampleIdeal.nD Cert.SampleIdeal.τ).loc Cert.SampleIdeal.main_v27) = v1 c
          ∧ r.2.mem ((c.tc : Thread Cert.SampleIdeal.nD Cert.SampleIdeal.τ).loc Cert.SampleIdeal.main_v25) = v2 c
          ∧ r.2.mem ((c.tc : Thread Cert.SampleIdeal.nD Cert.SampleIdeal.τ).loc Cert.SampleIdeal.main_v22_1) = v3 c
          ∧ r.2.mem ((c.tc : Thread Cert.SampleIdeal.nD Cert.SampleIdeal.τ).loc Cert.SampleIdeal.main_v22_4) = v4 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v46) = v0 c
          ∧ r.2.mem ((c.tc : Thread Cert.SampleRefIdeal.nD Cert.SampleRefIdeal.τ).loc Cert.SampleRefIdeal.main_v47) = v1 c
          ∧ r.2.mem ((c.tc : Thread Cert.SampleRefIdeal.nD Cert.SampleRefIdeal.τ).loc Cert.SampleRefIdeal.main_v63) = v2 c
          ∧ r.2.mem ((c.tc : Thread Cert.SampleRefIdeal.nD Cert.SampleRefIdeal.τ).loc Cert.SampleRefIdeal.main_v64) = v3 c
          ∧ r.2.mem ((c.tc : Thread Cert.SampleRefIdeal.nD Cert.SampleRefIdeal.τ).loc Cert.SampleRefIdeal.main_v65) = v4 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)) →
    ∃ (v0 : (c : Dev Cert.OutprojIdeal.nD) → Buf (Elt Ideal) ((c.tc : Thread Cert.OutprojIdeal.nD Cert.OutprojIdeal.τ).loc Cert.OutprojIdeal.main_v16_0)) (v1 : (c : Dev Cert.OutprojIdeal.nD) → Buf (Elt Ideal) ((c.tc : Thread Cert.OutprojIdeal.nD Cert.OutprojIdeal.τ).loc Cert.OutprojIdeal.main_v17)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v16_0) = v0 c
          ∧ r.2.mem ((c.tc : Thread Cert.OutprojIdeal.nD Cert.OutprojIdeal.τ).loc Cert.OutprojIdeal.main_v17) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v2) = v0 c
          ∧ r.2.mem ((c.tc : Thread Cert.OutprojRefIdeal.nD Cert.OutprojRefIdeal.τ).loc Cert.OutprojRefIdeal.main_v15) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v71) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectRefIdeal : Cert.ProjectRefIdeal.Facts) (hMemory : Cert.Memory.Facts) (hMemoryIdeal : Cert.MemoryIdeal.Facts) (hMemoryRefIdeal : Cert.MemoryRefIdeal.Facts) (hSample : Cert.Sample.Facts) (hSampleIdeal : Cert.SampleIdeal.Facts) (hSampleRefIdeal : Cert.SampleRefIdeal.Facts) (hOutproj : Cert.Outproj.Facts) (hOutprojIdeal : Cert.OutprojIdeal.Facts) (hOutprojRefIdeal : Cert.OutprojRefIdeal.Facts) (hMoe : Cert.Moe.Facts) (hMoeIdeal : Cert.MoeIdeal.Facts) (hMoeRefIdeal : Cert.MoeRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectRefIdeal (hProjectRefIdeal := hProjectRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Sample (hSample := hSample)
    ∧ quiescent_SampleIdeal (hSampleIdeal := hSampleIdeal)
    ∧ quiescent_SampleRefIdeal (hSampleRefIdeal := hSampleRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Moe (hMoe := hMoe)
    ∧ quiescent_MoeIdeal (hMoeIdeal := hMoeIdeal)
    ∧ quiescent_MoeRefIdeal (hMoeRefIdeal := hMoeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectRefIdeal (hProjectIdeal := hProjectIdeal) (hProjectRefIdeal := hProjectRefIdeal)
    ∧ preserves_Memory_MemoryIdeal
    ∧ algebraic_MemoryIdeal_MemoryRefIdeal (hMemoryIdeal := hMemoryIdeal) (hMemoryRefIdeal := hMemoryRefIdeal)
    ∧ preserves_Sample_SampleIdeal
    ∧ algebraic_SampleIdeal_SampleRefIdeal (hSampleIdeal := hSampleIdeal) (hSampleRefIdeal := hSampleRefIdeal)
    ∧ preserves_Outproj_OutprojIdeal
    ∧ algebraic_OutprojIdeal_OutprojRefIdeal (hOutprojIdeal := hOutprojIdeal) (hOutprojRefIdeal := hOutprojRefIdeal)
    ∧ preserves_Moe_MoeIdeal
    ∧ algebraic_MoeIdeal_MoeRefIdeal (hMoeIdeal := hMoeIdeal) (hMoeRefIdeal := hMoeRefIdeal)
-- ==== Pre_finite.lean ====
abbrev S16384x256 : Shape := ⟨2, ![16384, 256]⟩
abbrev S1024x256 : Shape := ⟨2, ![1024, 256]⟩
abbrev S1024 : Shape := ⟨1, ![1024]⟩
abbrev S17408x256 : Shape := ⟨2, ![17408, 256]⟩
abbrev S_ : Shape := ⟨0, ![]⟩

class Facts : Prop where
  concatenates_S16384x256_S1024x256_S17408x256_d0 : Shape.Concatenates [S16384x256, S1024x256] S17408x256 0
  bcast_S_S17408x256 : S_.BroadcastsInDim S17408x256 (![] : Fin 0 → Fin S17408x256.rank)

variable [Facts]

def fn {F : FTy → Type} [FloatOps F] (main_arg0 : FVec F S16384x256 .f32) (main_arg1 : FVec F S1024x256 .f32) (main_arg2 : FVec F S1024x256 .f32) (main_arg3 : FVec F S1024 .f32) : IVec S17408x256 1 :=
  let main_v0 : FVec F S17408x256 .f32 := (fun a b => concatenate S17408x256 0 [⟨S16384x256, a⟩, ⟨S1024x256, b⟩] concatenates_S16384x256_S1024x256_S17408x256_d0) main_arg0 main_arg1
  let main_v1 : FVec F S17408x256 .f32 := Host.absf main_v0
  let main_cst : FVec F S_ .f32 := constant S_ .f32 0x7F800000#32
  let main_v2 : FVec F S17408x256 .f32 := broadcastInDim S17408x256 ![] bcast_S_S17408x256 main_cst
  let main_v3 : IVec S17408x256 1 := cmpf .olt main_v1 main_v2
  main_v3
-- ==== Kernel.lean ====
abbrev S16384x256 : Shape := ⟨2, ![16384, 256]⟩
abbrev S1024x256 : Shape := ⟨2, ![1024, 256]⟩
abbrev S1024 : Shape := ⟨1, ![1024]⟩
abbrev S256 : Shape := ⟨1, ![256]⟩
abbrev S4x256x256 : Shape := ⟨3, ![4, 256, 256]⟩
abbrev S1x256 : Shape := ⟨2, ![1, 256]⟩
abbrev S512x256 : Shape := ⟨2, ![512, 256]⟩
abbrev S1x256x256 : Shape := ⟨3, ![1, 256, 256]⟩
abbrev S512x128 : Shape := ⟨2, ![512, 128]⟩
abbrev S1024x128 : Shape := ⟨2, ![1024, 128]⟩
abbrev S1x256x128 : Shape := ⟨3, ![1, 256, 128]⟩
abbrev S256x128 : Shape := ⟨2, ![256, 128]⟩
abbrev S1024x1 : Shape := ⟨2, ![1024, 1]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x256, .f32⟩
  | .hbm, ⟨3, _⟩ => ⟨S1024, .f32⟩
  | .hbm, ⟨4, _⟩ => ⟨S256, .f32⟩
  | .hbm, ⟨5, _⟩ => ⟨S4x256x256, .f32⟩
  | .hbm, ⟨6, _⟩ => ⟨S4x256x256, .f32⟩
  | .hbm, ⟨7, _⟩ => ⟨S1x256, .f32⟩
  | .hbm, ⟨8, _⟩ => ⟨S16384x256, .f32⟩
  | .local _ .vmem, ⟨0, _⟩ => ⟨S512x256, .f32⟩
  | .local _ .vmem, ⟨1, _⟩ => ⟨S512x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x256 : Shape := ⟨2, ![16384, 256]⟩
abbrev S1024x256 : Shape := ⟨2, ![1024, 256]⟩
abbrev S1024 : Shape := ⟨1, ![1024]⟩
abbrev S4x4096x4x64 : Shape := ⟨4, ![4, 4096, 4, 64]⟩
abbrev S4x256x4x64 : Shape := ⟨4, ![4, 256, 4, 64]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x4096x256 : Shape := ⟨3, ![4, 4096, 256]⟩
abbrev S256 : Shape := ⟨1, ![256]⟩
abbrev S4x4096 : Shape := ⟨2, ![4, 4096]⟩
abbrev S4x4096x1 : Shape := ⟨3, ![4, 4096, 1]⟩
abbrev S1x1x256 : Shape := ⟨3, ![1, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x256, .f32⟩
  | .hbm, ⟨3, _⟩ => ⟨S1024, .f32⟩
  | .hbm, ⟨4, _⟩ => ⟨S4x4096x4x64, .f32⟩
  | .hbm, ⟨5, _⟩ => ⟨S4x256x4x64, .f32⟩
  | .hbm, ⟨6, _⟩ => ⟨S4x256x4x64, .f32⟩
  | .hbm, ⟨7, _⟩ => ⟨S4x4x4096x256, .f32⟩
  | .hbm, ⟨8, _⟩ => ⟨S_, .f32⟩
  | .hbm, ⟨9, _⟩ => ⟨S4x4x4096x256, .f32⟩
  | .hbm, ⟨10, _⟩ => ⟨S4x4x4096x256, .f32⟩
  | .hbm, ⟨11, _⟩ => ⟨S_, .f32⟩
  | .hbm, ⟨12, _⟩ => ⟨S4x4x4096, .f32⟩
  | .hbm, ⟨13, _⟩ => ⟨S_, .f32⟩
  | .hbm, ⟨14, _⟩ => ⟨S4x4x4096, .f32⟩
  | .hbm, ⟨15, _⟩ => ⟨S4x4x4096, .f32⟩
  | .hbm, ⟨16, _⟩ => ⟨S4x4x4096x1, .f32⟩
  | .hbm, ⟨17, _⟩ => ⟨S4x4x4096x256, .f32⟩
  | .hbm, ⟨18, _⟩ => ⟨S4x4x4096x256, .f32⟩
  | .hbm, ⟨19, _⟩ => ⟨S4x4x4096x256, .f32⟩
  | .hbm, ⟨20, _⟩ => ⟨S_, .f32⟩
  | .hbm, ⟨21, _⟩ => ⟨S4x4x4096, .f32⟩
  | .hbm, ⟨22, _⟩ => ⟨S4x4x4096x1, .f32⟩
  | .hbm, ⟨23, _⟩ => ⟨S4x4x4096x256, .f32⟩
  | .hbm, ⟨24, _⟩ => ⟨S4x4x4096x256, .f32⟩
  | .hbm, ⟨25, _⟩ => ⟨S4x4x64x4096, .f32⟩
  | .hbm, ⟨26, _⟩ => ⟨S4x4096x4x64, .f32⟩
  | .hbm, ⟨27, _⟩ => ⟨S4x4096x256, .f32⟩
  | .hbm, ⟨28, _⟩ => ⟨S256, .f32⟩
  | .hbm, ⟨29, _⟩ => ⟨S4x4096x256, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S1x1x256, .f32⟩
  | .hbm, ⟨43, _⟩ => ⟨S4x4096x256, .f32⟩
  | .hbm, ⟨44, _⟩ => ⟨S4x4096x256, .f32⟩
  | .hbm, ⟨45, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Project.lean ====
abbrev S4x4096x1024 : Shape := ⟨3, ![4, 4096, 1024]⟩
abbrev S1024 : Shape := ⟨1, ![1024]⟩
abbrev S1024x2048 : Shape := ⟨2, ![1024, 2048]⟩
abbrev S64 : Shape := ⟨1, ![64]⟩
abbrev S512x512 : Shape := ⟨2, ![512, 512]⟩
abbrev S_ : Shape := ⟨0, ![]⟩
abbrev S256 : Shape := ⟨1, ![256]⟩
abbrev S1x64 : Shape := ⟨2, ![1, 64]⟩
abbrev S8x64 : Shape := ⟨2, ![8, 64]⟩
abbrev S512 : Shape := ⟨1, ![512]⟩
abbrev S4x64 : Shape := ⟨2, ![4, 64]⟩
abbrev S2048 : Shape := ⟨1, ![2048]⟩
abbrev S16384x1024 : Shape := ⟨2, ![16384, 1024]⟩
abbrev S1x1024 : Shape := ⟨2, ![1, 1024]⟩
abbrev S1x2048 : Shape := ⟨2, ![1, 2048]⟩
abbrev S16384x256 : Shape := ⟨2, ![16384, 256]⟩
abbrev S16384x512 : Shape := ⟨2, ![16384, 512]⟩
abbrev S64x1x512 : Shape := ⟨3, ![64, 1, 512]⟩
abbrev S512x1024 : Shape := ⟨2, ![512, 1024]⟩
abbrev S512x256 : Shape := ⟨2, ![512, 256]⟩
abbrev S2x1x512 : Shape := ⟨3, ![2, 1, 512]⟩
abbrev S512x1 : Shape := ⟨2, ![512, 1]⟩
abbrev S1024x256 : Shape := ⟨2, ![1024, 256]⟩
abbrev S1024x512 : Shape := ⟨2, ![1024, 512]⟩
abbrev S1x512 : Shape := ⟨2, ![1, 512]⟩
abbrev S256x512 : Shape := ⟨2, ![256, 512]⟩
abbrev S1x1x512 : Shape := ⟨3, ![1, 1, 512]⟩
abbrev S256x256 : Shape := ⟨2, ![256, 256]⟩
abbrev S1x256 : Shape := ⟨2, ![1, 256]⟩
abbrev S4x4096x256 : Shape := ⟨3, ![4, 4096, 256]⟩
abbrev S4x15x256 : Shape := ⟨3, ![4, 15, 256]⟩
abbrev S4x4096x8x64 : Shape := ⟨4, ![4, 4096, 8, 64]⟩
abbrev S4x16x512 : Shape := ⟨3, ![4, 16, 512]⟩

abbrev nBuf : Space → Nat
  | .hbm => 77
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1024x2048, .bf16⟩
  | .hbm, ⟨7, _⟩ => ⟨S512x512, .i32⟩
  | .hbm, ⟨8, _⟩ => ⟨S_, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i1⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S512x512, .i1⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i32⟩
  | .hbm, ⟨26, _⟩ => ⟨S512x512, .i32⟩
  | .hbm, ⟨27, _⟩ => ⟨S_, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S_, .i32⟩
  | .hbm, ⟨33, _⟩ => ⟨S512x512, .i32⟩
  | .hbm, ⟨34, _⟩ => ⟨S512x512, .i1⟩
  | .hbm, ⟨35, _⟩ => ⟨S512x512, .i32⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i1⟩
  | .hbm, ⟨40, _⟩ => ⟨S512x512, .i1⟩
  | .hbm, ⟨41, _⟩ => ⟨S_, .i32⟩
  | .hbm, ⟨42, _⟩ => ⟨S512x512, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S512x512, .bf16⟩
  | .hbm, ⟨47, _⟩ => ⟨S_, .f32⟩
  | .hbm, ⟨48, _⟩ => ⟨S256, .f32⟩
  | .hbm, ⟨49, _⟩ => ⟨S1x64, .f32⟩
  | .hbm, ⟨50, _⟩ => ⟨S8x64, .f32⟩
  | .hbm, ⟨51, _⟩ => ⟨S512, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S_, .f32⟩
  | .hbm, ⟨56, _⟩ => ⟨S512, .f32⟩
  | .hbm, ⟨57, _⟩ => ⟨S1x64, .f32⟩
  | .hbm, ⟨58, _⟩ => ⟨S4x64, .f32⟩
  | .hbm, ⟨59, _⟩ => ⟨S256, .f32⟩
  | .hbm, ⟨60, _⟩ => ⟨S2048, .f32⟩
  | .hbm, ⟨61, _⟩ => ⟨S16384x1024, .f32⟩
  | .hbm, ⟨62, _⟩ => ⟨S1x1024, .f32⟩
  | .hbm, ⟨63, _⟩ => ⟨S1x2048, .f32⟩
  | .hbm, ⟨64, _⟩ => ⟨S16384x256, .f32⟩
  | .hbm, ⟨65, _⟩ => ⟨S16384x512, .f32⟩
  | .hbm, ⟨66, _⟩ => ⟨S16384x512, .f32⟩
  | .hbm, ⟨67, _⟩ => ⟨S16384x512, .bf16⟩
  | .hbm, ⟨68, _⟩ => ⟨S64x1x512, .f32⟩
  | .hbm, ⟨69, _⟩ => ⟨S16384x512, .f32⟩
  | .hbm, ⟨70, _⟩ => ⟨S16384x512, .bf16⟩
  | .hbm, ⟨71, _⟩ => ⟨S16384x256, .f32⟩
  | .hbm, ⟨72, _⟩ => ⟨S4x4096x256, .f32⟩
  | .hbm, ⟨73, _⟩ => ⟨S4x15x256, .f32⟩
  | .hbm, ⟨74, _⟩ => ⟨S4x4096x8x64, .f32⟩
  | .hbm, ⟨75, _⟩ => ⟨S4x4096x8x64, .f32⟩
  | .hbm, ⟨76, _⟩ => ⟨S4x16x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S2x1x512, .f32⟩
  | .local _ .vmem, ⟨15, _⟩ => ⟨S2x1x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x256, .f32⟩
  | .local _ .vmem, ⟨21, _⟩ => ⟨S512x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22_0 : Ref sig .tc := ⟨.hbm, 64, rfl⟩
abbrev main_v22_1 : Ref sig .tc := ⟨.hbm, 65, rfl⟩
abbrev main_v22_2 : Ref sig .tc := ⟨.hbm, 66, rfl⟩
abbrev main_v22_3 : Ref sig .tc := ⟨.hbm, 67, rfl⟩
abbrev main_v22_4 : Ref sig .tc := ⟨.hbm, 68, rfl⟩
abbrev main_v22_5 : Ref sig .tc := ⟨.hbm, 69, rfl⟩
abbrev main_v22_6 : Ref sig .tc := ⟨.hbm, 70, rfl⟩
abbrev main_v22_7 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjectRefIdeal.lean ====
abbrev S4x4096x1024 : Shape := ⟨3, ![4, 4096, 1024]⟩
abbrev S1024 : Shape := ⟨1, ![1024]⟩
abbrev S1024x2048 : Shape := ⟨2, ![1024, 2048]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x256 : Shape := ⟨3, ![4, 4096, 256]⟩
abbrev S4x4096x512 : Shape := ⟨3, ![4, 4096, 512]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S4x16x256x8x64 : Shape := ⟨5, ![4, 16, 256, 8, 64]⟩
abbrev S4x16x8x64 : Shape := ⟨4, ![4, 16, 8, 64]⟩
abbrev S4x15x256 : Shape := ⟨3, ![4, 15, 256]⟩
abbrev S16384x256 : Shape := ⟨2, ![16384, 256]⟩
abbrev S16384x512 : Shape := ⟨2, ![16384, 512]⟩
abbrev S4x16x512 : Shape := ⟨3, ![4, 16, 512]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x2048, .f32⟩
  | .hbm, ⟨23, _⟩ => ⟨S4x4096x256, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x256, .f32⟩
  | .hbm, ⟨28, _⟩ => ⟨S4x4096x8x64, .f32⟩
  | .hbm, ⟨29, _⟩ => ⟨S4x4096x8x64, .f32⟩
  | .hbm, ⟨30, _⟩ => ⟨S_, .f32⟩
  | .hbm, ⟨31, _⟩ => ⟨S4x4096x8, .f32⟩
  | .hbm, ⟨32, _⟩ => ⟨S4x4096x8x1, .f32⟩
  | .hbm, ⟨33, _⟩ => ⟨S_, .f32⟩
  | .hbm, ⟨34, _⟩ => ⟨S4x4096x8x1, .f32⟩
  | .hbm, ⟨35, _⟩ => ⟨S4x4096x8x1, .f32⟩
  | .hbm, ⟨36, _⟩ => ⟨S_, .f32⟩
  | .hbm, ⟨37, _⟩ => ⟨S4x4096x8x1, .f32⟩
  | .hbm, ⟨38, _⟩ => ⟨S4x4096x8x1, .f32⟩
  | .hbm, ⟨39, _⟩ => ⟨S4x4096x8x1, .f32⟩
  | .hbm, ⟨40, _⟩ => ⟨S4x4096x8x64, .f32⟩
  | .hbm, ⟨41, _⟩ => ⟨S4x4096x8x64, .f32⟩
  | .hbm, ⟨42, _⟩ => ⟨S1x1x1x64, .f32⟩
  | .hbm, ⟨43, _⟩ => ⟨S4x4096x8x64, .f32⟩
  | .hbm, ⟨44, _⟩ => ⟨S4x4096x8x64, .f32⟩
  | .hbm, ⟨45, _⟩ => ⟨S4x4096x8x64, .f32⟩
  | .hbm, ⟨46, _⟩ => ⟨S4x4096x8x64, .f32⟩
  | .hbm, ⟨47, _⟩ => ⟨S_, .f32⟩
  | .hbm, ⟨48, _⟩ => ⟨S4x4096x8, .f32⟩
  | .hbm, ⟨49, _⟩ => ⟨S4x4096x8x1, .f32⟩
  | .hbm, ⟨50, _⟩ => ⟨S_, .f32⟩
  | .hbm, ⟨51, _⟩ => ⟨S4x4096x8x1, .f32⟩
  | .hbm, ⟨52, _⟩ => ⟨S4x4096x8x1, .f32⟩
  | .hbm, ⟨53, _⟩ => ⟨S_, .f32⟩
  | .hbm, ⟨54, _⟩ => ⟨S4x4096x8x1, .f32⟩
  | .hbm, ⟨55, _⟩ => ⟨S4x4096x8x1, .f32⟩
  | .hbm, ⟨56, _⟩ => ⟨S4x4096x8x1, .f32⟩
  | .hbm, ⟨57, _⟩ => ⟨S4x4096x8x64, .f32⟩
  | .hbm, ⟨58, _⟩ => ⟨S4x4096x8x64, .f32⟩
  | .hbm, ⟨59, _⟩ => ⟨S1x1x1x64, .f32⟩
  | .hbm, ⟨60, _⟩ => ⟨S4x4096x8x64, .f32⟩
  | .hbm, ⟨61, _⟩ => ⟨S4x4096x8x64, .f32⟩
  | .hbm, ⟨62, _⟩ => ⟨S4x4096x8x64, .f32⟩
  | .hbm, ⟨63, _⟩ => ⟨S4x4096x4x64, .f32⟩
  | .hbm, ⟨64, _⟩ => ⟨S4x4096x4x64, .f32⟩
  | .hbm, ⟨65, _⟩ => ⟨S_, .f32⟩
  | .hbm, ⟨66, _⟩ => ⟨S4x4096x4, .f32⟩
  | .hbm, ⟨67, _⟩ => ⟨S4x4096x4x1, .f32⟩
  | .hbm, ⟨68, _⟩ => ⟨S_, .f32⟩
  | .hbm, ⟨69, _⟩ => ⟨S4x4096x4x1, .f32⟩
  | .hbm, ⟨70, _⟩ => ⟨S4x4096x4x1, .f32⟩
  | .hbm, ⟨71, _⟩ => ⟨S_, .f32⟩
  | .hbm, ⟨72, _⟩ => ⟨S4x4096x4x1, .f32⟩
  | .hbm, ⟨73, _⟩ => ⟨S4x4096x4x1, .f32⟩
  | .hbm, ⟨74, _⟩ => ⟨S4x4096x4x1, .f32⟩
  | .hbm, ⟨75, _⟩ => ⟨S4x4096x4x64, .f32⟩
  | .hbm, ⟨76, _⟩ => ⟨S4x4096x4x64, .f32⟩
  | .hbm, ⟨77, _⟩ => ⟨S1x1x1x64, .f32⟩
  | .hbm, ⟨78, _⟩ => ⟨S4x4096x4x64, .f32⟩
  | .hbm, ⟨79, _⟩ => ⟨S4x4096x4x64, .f32⟩
  | .hbm, ⟨80, _⟩ => ⟨S4x16x256x8x64, .f32⟩
  | .hbm, ⟨81, _⟩ => ⟨S_, .f32⟩
  | .hbm, ⟨82, _⟩ => ⟨S4x16x8x64, .f32⟩
  | .hbm, ⟨83, _⟩ => ⟨S_, .f32⟩
  | .hbm, ⟨84, _⟩ => ⟨S4x16x8x64, .f32⟩
  | .hbm, ⟨85, _⟩ => ⟨S4x16x8x64, .f32⟩
  | .hbm, ⟨86, _⟩ => ⟨S4x15x256, .f32⟩
  | .hbm, ⟨87, _⟩ => ⟨S16384x256, .f32⟩
  | .hbm, ⟨88, _⟩ => ⟨S16384x512, .f32⟩
  | .hbm, ⟨89, _⟩ => ⟨S4x16x512, .f32⟩
  | .hbm, ⟨90, _⟩ => ⟨S16384x256, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Memory.lean ====
abbrev S4x256x1024 : Shape := ⟨3, ![4, 256, 1024]⟩
abbrev S1024 : Shape := ⟨1, ![1024]⟩
abbrev S1024x512 : Shape := ⟨2, ![1024, 512]⟩
abbrev S64 : Shape := ⟨1, ![64]⟩
abbrev S512x512 : Shape := ⟨2, ![512, 512]⟩
abbrev S_ : Shape := ⟨0, ![]⟩
abbrev S1x64 : Shape := ⟨2, ![1, 64]⟩
abbrev S4x64 : Shape := ⟨2, ![4, 64]⟩
abbrev S256 : Shape := ⟨1, ![256]⟩
abbrev S512 : Shape := ⟨1, ![512]⟩
abbrev S1024x1024 : Shape := ⟨2, ![1024, 1024]⟩
abbrev S1x1024 : Shape := ⟨2, ![1, 1024]⟩
abbrev S1x512 : Shape := ⟨2, ![1, 512]⟩
abbrev S1024x256 : Shape := ⟨2, ![1024, 256]⟩
abbrev S512x1024 : Shape := ⟨2, ![512, 1024]⟩
abbrev S512x256 : Shape := ⟨2, ![512, 256]⟩
abbrev S512x1 : Shape := ⟨2, ![512, 1]⟩
abbrev S256x256 : Shape := ⟨2, ![256, 256]⟩
abbrev S1x256 : Shape := ⟨2, ![1, 256]⟩
abbrev S4x256x4x64 : Shape := ⟨4, ![4, 256, 4, 64]⟩

abbrev nBuf : Space → Nat
  | .hbm => 58
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S64, .f32⟩
  | .hbm, ⟨4, _⟩ => ⟨S1024x512, .bf16⟩
  | .hbm, ⟨5, _⟩ => ⟨S512x512, .i32⟩
  | .hbm, ⟨6, _⟩ => ⟨S_, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i1⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i1⟩
  | .hbm, ⟨19, _⟩ => ⟨S512x512, .i1⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S512x512, .i32⟩
  | .hbm, ⟨24, _⟩ => ⟨S512x512, .i32⟩
  | .hbm, ⟨25, _⟩ => ⟨S_, .i32⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S_, .i32⟩
  | .hbm, ⟨31, _⟩ => ⟨S512x512, .i32⟩
  | .hbm, ⟨32, _⟩ => ⟨S512x512, .i1⟩
  | .hbm, ⟨33, _⟩ => ⟨S512x512, .i32⟩
  | .hbm, ⟨34, _⟩ => ⟨S512x512, .i32⟩
  | .hbm, ⟨35, _⟩ => ⟨S_, .i32⟩
  | .hbm, ⟨36, _⟩ => ⟨S512x512, .i32⟩
  | .hbm, ⟨37, _⟩ => ⟨S512x512, .i1⟩
  | .hbm, ⟨38, _⟩ => ⟨S512x512, .i1⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S512x512, .bf16⟩
  | .hbm, ⟨45, _⟩ => ⟨S1x64, .f32⟩
  | .hbm, ⟨46, _⟩ => ⟨S4x64, .f32⟩
  | .hbm, ⟨47, _⟩ => ⟨S256, .f32⟩
  | .hbm, ⟨48, _⟩ => ⟨S_, .f32⟩
  | .hbm, ⟨49, _⟩ => ⟨S256, .f32⟩
  | .hbm, ⟨50, _⟩ => ⟨S512, .f32⟩
  | .hbm, ⟨51, _⟩ => ⟨S1024x1024, .f32⟩
  | .hbm, ⟨52, _⟩ => ⟨S1x1024, .f32⟩
  | .hbm, ⟨53, _⟩ => ⟨S1x512, .f32⟩
  | .hbm, ⟨54, _⟩ => ⟨S1024x256, .f32⟩
  | .hbm, ⟨55, _⟩ => ⟨S1024x256, .f32⟩
  | .hbm, ⟨56, _⟩ => ⟨S4x256x4x64, .f32⟩
  | .hbm, ⟨57, _⟩ => ⟨S4x256x4x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x512, .f32⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15_0 : Ref sig .tc := ⟨.hbm, 54, rfl⟩
abbrev main_v15_1 : Ref sig .tc := ⟨.hbm, 55, rfl⟩
abbrev main_v16 : Ref sig .tc := ⟨.hbm, 56, rfl⟩
abbrev main_v17 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemoryRefIdeal.lean ====
abbrev S4x256x1024 : Shape := ⟨3, ![4, 256, 1024]⟩
abbrev S1024 : Shape := ⟨1, ![1024]⟩
abbrev S1024x512 : Shape := ⟨2, ![1024, 512]⟩
abbrev S64 : Shape := ⟨1, ![64]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x256 : Shape := ⟨3, ![4, 256, 256]⟩
abbrev S4x256x4x64 : Shape := ⟨4, ![4, 256, 4, 64]⟩
abbrev S4x256x4 : Shape := ⟨3, ![4, 256, 4]⟩
abbrev S4x256x4x1 : Shape := ⟨4, ![4, 256, 4, 1]⟩
abbrev S1x1x1x64 : Shape := ⟨4, ![1, 1, 1, 64]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S64, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x512, .f32⟩
  | .hbm, ⟨21, _⟩ => ⟨S4x256x256, .f32⟩
  | .hbm, ⟨22, _⟩ => ⟨S4x256x256, .f32⟩
  | .hbm, ⟨23, _⟩ => ⟨S4x256x4x64, .f32⟩
  | .hbm, ⟨24, _⟩ => ⟨S4x256x4x64, .f32⟩
  | .hbm, ⟨25, _⟩ => ⟨S_, .f32⟩
  | .hbm, ⟨26, _⟩ => ⟨S4x256x4, .f32⟩
  | .hbm, ⟨27, _⟩ => ⟨S4x256x4x1, .f32⟩
  | .hbm, ⟨28, _⟩ => ⟨S_, .f32⟩
  | .hbm, ⟨29, _⟩ => ⟨S4x256x4x1, .f32⟩
  | .hbm, ⟨30, _⟩ => ⟨S4x256x4x1, .f32⟩
  | .hbm, ⟨31, _⟩ => ⟨S_, .f32⟩
  | .hbm, ⟨32, _⟩ => ⟨S4x256x4x1, .f32⟩
  | .hbm, ⟨33, _⟩ => ⟨S4x256x4x1, .f32⟩
  | .hbm, ⟨34, _⟩ => ⟨S4x256x4x1, .f32⟩
  | .hbm, ⟨35, _⟩ => ⟨S4x256x4x64, .f32⟩
  | .hbm, ⟨36, _⟩ => ⟨S4x256x4x64, .f32⟩
  | .hbm, ⟨37, _⟩ => ⟨S1x1x1x64, .f32⟩
  | .hbm, ⟨38, _⟩ => ⟨S4x256x4x64, .f32⟩
  | .hbm, ⟨39, _⟩ => ⟨S4x256x4x64, .f32⟩
  | .hbm, ⟨40, _⟩ => ⟨S4x256x4x64, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Sample.lean ====
abbrev S32x8x1024 : Shape := ⟨3, ![32, 8, 1024]⟩
abbrev S32x15x256 : Shape := ⟨3, ![32, 15, 256]⟩
abbrev S1024 : Shape := ⟨1, ![1024]⟩
abbrev S1024x2048 : Shape := ⟨2, ![1024, 2048]⟩
abbrev S64 : Shape := ⟨1, ![64]⟩
abbrev S512x512 : Shape := ⟨2, ![512, 512]⟩
abbrev S_ : Shape := ⟨0, ![]⟩
abbrev S256 : Shape := ⟨1, ![256]⟩
abbrev S1x64 : Shape := ⟨2, ![1, 64]⟩
abbrev S8x64 : Shape := ⟨2, ![8, 64]⟩
abbrev S512 : Shape := ⟨1, ![512]⟩
abbrev S4x64 : Shape := ⟨2, ![4, 64]⟩
abbrev S2048 : Shape := ⟨1, ![2048]⟩
abbrev S256x1024 : Shape := ⟨2, ![256, 1024]⟩
abbrev S1x1024 : Shape := ⟨2, ![1, 1024]⟩
abbrev S1x2048 : Shape := ⟨2, ![1, 2048]⟩
abbrev S256x256 : Shape := ⟨2, ![256, 256]⟩
abbrev S256x512 : Shape := ⟨2, ![256, 512]⟩
abbrev S256x1 : Shape := ⟨2, ![256, 1]⟩
abbrev S1024x256 : Shape := ⟨2, ![1024, 256]⟩
abbrev S1024x512 : Shape := ⟨2, ![1024, 512]⟩
abbrev S1x512 : Shape := ⟨2, ![1, 512]⟩
abbrev S1x256 : Shape := ⟨2, ![1, 256]⟩
abbrev S32x8x256 : Shape := ⟨3, ![32, 8, 256]⟩
abbrev S32x23x256 : Shape := ⟨3, ![32, 23, 256]⟩
abbrev S32x8x8x64 : Shape := ⟨4, ![32, 8, 8, 64]⟩

abbrev nBuf : Space → Nat
  | .hbm => 75
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S32x15x256, .f32⟩
  | .hbm, ⟨2, _⟩ => ⟨S1024, .f32⟩
  | .hbm, ⟨3, _⟩ => ⟨S1024x2048, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1024x2048, .bf16⟩
  | .hbm, ⟨8, _⟩ => ⟨S512x512, .i32⟩
  | .hbm, ⟨9, _⟩ => ⟨S_, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S512x512, .i1⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i1⟩
  | .hbm, ⟨22, _⟩ => ⟨S512x512, .i1⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i32⟩
  | .hbm, ⟨27, _⟩ => ⟨S512x512, .i32⟩
  | .hbm, ⟨28, _⟩ => ⟨S_, .i32⟩
  | .hbm, ⟨29, _⟩ => ⟨S_, .i32⟩
  | .hbm, ⟨30, _⟩ => ⟨S512x512, .i32⟩
  | .hbm, ⟨31, _⟩ => ⟨S512x512, .i32⟩
  | .hbm, ⟨32, _⟩ => ⟨S512x512, .i32⟩
  | .hbm, ⟨33, _⟩ => ⟨S_, .i32⟩
  | .hbm, ⟨34, _⟩ => ⟨S512x512, .i32⟩
  | .hbm, ⟨35, _⟩ => ⟨S512x512, .i1⟩
  | .hbm, ⟨36, _⟩ => ⟨S512x512, .i32⟩
  | .hbm, ⟨37, _⟩ => ⟨S512x512, .i32⟩
  | .hbm, ⟨38, _⟩ => ⟨S_, .i32⟩
  | .hbm, ⟨39, _⟩ => ⟨S512x512, .i32⟩
  | .hbm, ⟨40, _⟩ => ⟨S512x512, .i1⟩
  | .hbm, ⟨41, _⟩ => ⟨S512x512, .i1⟩
  | .hbm, ⟨42, _⟩ => ⟨S_, .i32⟩
  | .hbm, ⟨43, _⟩ => ⟨S512x512, .i32⟩
  | .hbm, ⟨44, _⟩ => ⟨S512x512, .i32⟩
  | .hbm, ⟨45, _⟩ => ⟨S512x512, .i32⟩
  | .hbm, ⟨46, _⟩ => ⟨S512x512, .i1⟩
  | .hbm, ⟨47, _⟩ => ⟨S512x512, .bf16⟩
  | .hbm, ⟨48, _⟩ => ⟨S_, .f32⟩
  | .hbm, ⟨49, _⟩ => ⟨S256, .f32⟩
  | .hbm, ⟨50, _⟩ => ⟨S1x64, .f32⟩
  | .hbm, ⟨51, _⟩ => ⟨S8x64, .f32⟩
  | .hbm, ⟨52, _⟩ => ⟨S512, .f32⟩
  | .hbm, ⟨53, _⟩ => ⟨S1x64, .f32⟩
  | .hbm, ⟨54, _⟩ => ⟨S8x64, .f32⟩
  | .hbm, ⟨55, _⟩ => ⟨S512, .f32⟩
  | .hbm, ⟨56, _⟩ => ⟨S_, .f32⟩
  | .hbm, ⟨57, _⟩ => ⟨S512, .f32⟩
  | .hbm, ⟨58, _⟩ => ⟨S1x64, .f32⟩
  | .hbm, ⟨59, _⟩ => ⟨S4x64, .f32⟩
  | .hbm, ⟨60, _⟩ => ⟨S256, .f32⟩
  | .hbm, ⟨61, _⟩ => ⟨S2048, .f32⟩
  | .hbm, ⟨62, _⟩ => ⟨S256x1024, .f32⟩
  | .hbm, ⟨63, _⟩ => ⟨S1x1024, .f32⟩
  | .hbm, ⟨64, _⟩ => ⟨S1x2048, .f32⟩
  | .hbm, ⟨65, _⟩ => ⟨S256x256, .f32⟩
  | .hbm, ⟨66, _⟩ => ⟨S256x512, .f32⟩
  | .hbm, ⟨67, _⟩ => ⟨S256x512, .f32⟩
  | .hbm, ⟨68, _⟩ => ⟨S256x512, .f32⟩
  | .hbm, ⟨69, _⟩ => ⟨S256x256, .f32⟩
  | .hbm, ⟨70, _⟩ => ⟨S32x8x256, .f32⟩
  | .hbm, ⟨71, _⟩ => ⟨S32x23x256, .f32⟩
  | .hbm, ⟨72, _⟩ => ⟨S32x15x256, .f32⟩
  | .hbm, ⟨73, _⟩ => ⟨S32x8x8x64, .f32⟩
  | .hbm, ⟨74, _⟩ => ⟨S32x8x8x64, .f32⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S1x2048, .f32⟩
  | .local _ .vmem, ⟨4, _⟩ => ⟨S512x512, .bf16⟩
  | .local _ .vmem, ⟨5, _⟩ => ⟨S256x256, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x256, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst_1 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22_0 : Ref sig .tc := ⟨.hbm, 65, rfl⟩
abbrev main_v22_1 : Ref sig .tc := ⟨.hbm, 66, rfl⟩
abbrev main_v22_2 : Ref sig .tc := ⟨.hbm, 67, rfl⟩
abbrev main_v22_3 : Ref sig .tc := ⟨.hbm, 68, rfl⟩
abbrev main_v22_4 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== SampleRefIdeal.lean ====
abbrev S32x8x1024 : Shape := ⟨3, ![32, 8, 1024]⟩
abbrev S32x15x256 : Shape := ⟨3, ![32, 15, 256]⟩
abbrev S1024 : Shape := ⟨1, ![1024]⟩
abbrev S1024x2048 : Shape := ⟨2, ![1024, 2048]⟩
abbrev S64 : Shape := ⟨1, ![64]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x2048 : Shape := ⟨3, ![32, 8, 2048]⟩
abbrev S32x8x256 : Shape := ⟨3, ![32, 8, 256]⟩
abbrev S32x8x512 : Shape := ⟨3, ![32, 8, 512]⟩
abbrev S32x8x8x64 : Shape := ⟨4, ![32, 8, 8, 64]⟩
abbrev S32x8x8 : Shape := ⟨3, ![32, 8, 8]⟩
abbrev S32x8x8x1 : Shape := ⟨4, ![32, 8, 8, 1]⟩
abbrev S1x1x1x64 : Shape := ⟨4, ![1, 1, 1, 64]⟩
abbrev S32x8x4x64 : Shape := ⟨4, ![32, 8, 4, 64]⟩
abbrev S32x8x4 : Shape := ⟨3, ![32, 8, 4]⟩
abbrev S32x8x4x1 : Shape := ⟨4, ![32, 8, 4, 1]⟩
abbrev S32x23x256 : Shape := ⟨3, ![32, 23, 256]⟩
abbrev S256x512 : Shape := ⟨2, ![256, 512]⟩
abbrev S256x256 : Shape := ⟨2, ![256, 256]⟩

abbrev nBuf : Space → Nat
  | .hbm => 85
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x15x256, .f32⟩
  | .hbm, ⟨2, _⟩ => ⟨S1024, .f32⟩
  | .hbm, ⟨3, _⟩ => ⟨S1024x2048, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S32x8x1024, .f32⟩
  | .hbm, ⟨8, _⟩ => ⟨S_, .f32⟩
  | .hbm, ⟨9, _⟩ => ⟨S32x8, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S_, .f32⟩
  | .hbm, ⟨15, _⟩ => ⟨S32x8x1, .f32⟩
  | .hbm, ⟨16, _⟩ => ⟨S32x8x1, .f32⟩
  | .hbm, ⟨17, _⟩ => ⟨S32x8x1, .f32⟩
  | .hbm, ⟨18, _⟩ => ⟨S32x8x1024, .f32⟩
  | .hbm, ⟨19, _⟩ => ⟨S32x8x1024, .f32⟩
  | .hbm, ⟨20, _⟩ => ⟨S1x1x1024, .f32⟩
  | .hbm, ⟨21, _⟩ => ⟨S32x8x1024, .f32⟩
  | .hbm, ⟨22, _⟩ => ⟨S32x8x1024, .f32⟩
  | .hbm, ⟨23, _⟩ => ⟨S32x8x2048, .f32⟩
  | .hbm, ⟨24, _⟩ => ⟨S32x8x256, .f32⟩
  | .hbm, ⟨25, _⟩ => ⟨S32x8x512, .f32⟩
  | .hbm, ⟨26, _⟩ => ⟨S32x8x512, .f32⟩
  | .hbm, ⟨27, _⟩ => ⟨S32x8x512, .f32⟩
  | .hbm, ⟨28, _⟩ => ⟨S32x8x256, .f32⟩
  | .hbm, ⟨29, _⟩ => ⟨S32x8x8x64, .f32⟩
  | .hbm, ⟨30, _⟩ => ⟨S32x8x8x64, .f32⟩
  | .hbm, ⟨31, _⟩ => ⟨S_, .f32⟩
  | .hbm, ⟨32, _⟩ => ⟨S32x8x8, .f32⟩
  | .hbm, ⟨33, _⟩ => ⟨S32x8x8x1, .f32⟩
  | .hbm, ⟨34, _⟩ => ⟨S_, .f32⟩
  | .hbm, ⟨35, _⟩ => ⟨S32x8x8x1, .f32⟩
  | .hbm, ⟨36, _⟩ => ⟨S32x8x8x1, .f32⟩
  | .hbm, ⟨37, _⟩ => ⟨S_, .f32⟩
  | .hbm, ⟨38, _⟩ => ⟨S32x8x8x1, .f32⟩
  | .hbm, ⟨39, _⟩ => ⟨S32x8x8x1, .f32⟩
  | .hbm, ⟨40, _⟩ => ⟨S32x8x8x1, .f32⟩
  | .hbm, ⟨41, _⟩ => ⟨S32x8x8x64, .f32⟩
  | .hbm, ⟨42, _⟩ => ⟨S32x8x8x64, .f32⟩
  | .hbm, ⟨43, _⟩ => ⟨S1x1x1x64, .f32⟩
  | .hbm, ⟨44, _⟩ => ⟨S32x8x8x64, .f32⟩
  | .hbm, ⟨45, _⟩ => ⟨S32x8x8x64, .f32⟩
  | .hbm, ⟨46, _⟩ => ⟨S32x8x8x64, .f32⟩
  | .hbm, ⟨47, _⟩ => ⟨S32x8x8x64, .f32⟩
  | .hbm, ⟨48, _⟩ => ⟨S_, .f32⟩
  | .hbm, ⟨49, _⟩ => ⟨S32x8x8, .f32⟩
  | .hbm, ⟨50, _⟩ => ⟨S32x8x8x1, .f32⟩
  | .hbm, ⟨51, _⟩ => ⟨S_, .f32⟩
  | .hbm, ⟨52, _⟩ => ⟨S32x8x8x1, .f32⟩
  | .hbm, ⟨53, _⟩ => ⟨S32x8x8x1, .f32⟩
  | .hbm, ⟨54, _⟩ => ⟨S_, .f32⟩
  | .hbm, ⟨55, _⟩ => ⟨S32x8x8x1, .f32⟩
  | .hbm, ⟨56, _⟩ => ⟨S32x8x8x1, .f32⟩
  | .hbm, ⟨57, _⟩ => ⟨S32x8x8x1, .f32⟩
  | .hbm, ⟨58, _⟩ => ⟨S32x8x8x64, .f32⟩
  | .hbm, ⟨59, _⟩ => ⟨S32x8x8x64, .f32⟩
  | .hbm, ⟨60, _⟩ => ⟨S1x1x1x64, .f32⟩
  | .hbm, ⟨61, _⟩ => ⟨S32x8x8x64, .f32⟩
  | .hbm, ⟨62, _⟩ => ⟨S32x8x8x64, .f32⟩
  | .hbm, ⟨63, _⟩ => ⟨S32x8x8x64, .f32⟩
  | .hbm, ⟨64, _⟩ => ⟨S32x8x4x64, .f32⟩
  | .hbm, ⟨65, _⟩ => ⟨S32x8x4x64, .f32⟩
  | .hbm, ⟨66, _⟩ => ⟨S_, .f32⟩
  | .hbm, ⟨67, _⟩ => ⟨S32x8x4, .f32⟩
  | .hbm, ⟨68, _⟩ => ⟨S32x8x4x1, .f32⟩
  | .hbm, ⟨69, _⟩ => ⟨S_, .f32⟩
  | .hbm, ⟨70, _⟩ => ⟨S32x8x4x1, .f32⟩
  | .hbm, ⟨71, _⟩ => ⟨S32x8x4x1, .f32⟩
  | .hbm, ⟨72, _⟩ => ⟨S_, .f32⟩
  | .hbm, ⟨73, _⟩ => ⟨S32x8x4x1, .f32⟩
  | .hbm, ⟨74, _⟩ => ⟨S32x8x4x1, .f32⟩
  | .hbm, ⟨75, _⟩ => ⟨S32x8x4x1, .f32⟩
  | .hbm, ⟨76, _⟩ => ⟨S32x8x4x64, .f32⟩
  | .hbm, ⟨77, _⟩ => ⟨S32x8x4x64, .f32⟩
  | .hbm, ⟨78, _⟩ => ⟨S1x1x1x64, .f32⟩
  | .hbm, ⟨79, _⟩ => ⟨S32x8x4x64, .f32⟩
  | .hbm, ⟨80, _⟩ => ⟨S32x8x4x64, .f32⟩
  | .hbm, ⟨81, _⟩ => ⟨S32x23x256, .f32⟩
  | .hbm, ⟨82, _⟩ => ⟨S32x15x256, .f32⟩
  | .hbm, ⟨83, _⟩ => ⟨S256x512, .f32⟩
  | .hbm, ⟨84, _⟩ => ⟨S256x256, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Outproj.lean ====
abbrev S16384x256 : Shape := ⟨2, ![16384, 256]⟩
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S16384x128 : Shape := ⟨2, ![16384, 128]⟩
abbrev S512x256 : Shape := ⟨2, ![512, 256]⟩
abbrev S512x512 : Shape := ⟨2, ![512, 512]⟩
abbrev S512x1024 : Shape := ⟨2, ![512, 1024]⟩
abbrev S512x128 : Shape := ⟨2, ![512, 128]⟩
abbrev S256x1024 : Shape := ⟨2, ![256, 1024]⟩
abbrev S512 : Shape := ⟨1, ![512]⟩
abbrev S512x1 : Shape := ⟨2, ![512, 1]⟩

abbrev nBuf : Space → Nat
  | .hbm => 38
  | .vmem => 18
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x256, .f32⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x32, .f32⟩
  | .hbm, ⟨9, _⟩ => ⟨S32, .f32⟩
  | .hbm, ⟨10, _⟩ => ⟨S1024x1024, .bf16⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S1x1024, .f32⟩
  | .hbm, ⟨34, _⟩ => ⟨S16384x1024, .f32⟩
  | .hbm, ⟨35, _⟩ => ⟨S16384x1024, .bf16⟩
  | .hbm, ⟨36, _⟩ => ⟨S16384x128, .f32⟩
  | .hbm, ⟨37, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1024x128, .f32⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_c_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v16_2 : Ref sig .tc := ⟨.hbm, 36, rfl⟩
abbrev main_v17 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutprojRefIdeal.lean ====
abbrev S16384x256 : Shape := ⟨2, ![16384, 256]⟩
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x256, .f32⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x32, .f32⟩
  | .hbm, ⟨9, _⟩ => ⟨S32, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Moe.lean ====
abbrev S16384x1024 : Shape := ⟨2, ![16384, 1024]⟩
abbrev S16384x128 : Shape := ⟨2, ![16384, 128]⟩
abbrev S4x8x1024x256 : Shape := ⟨4, ![4, 8, 1024, 256]⟩
abbrev S4x8x256x1024 : Shape := ⟨4, ![4, 8, 256, 1024]⟩
abbrev S32x1024x256 : Shape := ⟨3, ![32, 1024, 256]⟩
abbrev S32x256x1024 : Shape := ⟨3, ![32, 256, 1024]⟩
abbrev S1024x1024 : Shape := ⟨2, ![1024, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x1024, .f32⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S32x1024x256, .f32⟩
  | .hbm, ⟨7, _⟩ => ⟨S32x1024x256, .f32⟩
  | .hbm, ⟨8, _⟩ => ⟨S32x256x1024, .f32⟩
  | .hbm, ⟨9, _⟩ => ⟨S16384x1024, .bf16⟩
  | .hbm, ⟨10, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x256x1024, .f32⟩
  | .local _ .vmem, ⟨11, _⟩ => ⟨S1x256x1024, .f32⟩
  | .local _ .vmem, ⟨12, _⟩ => ⟨S1024x1024, .f32⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MoeRefIdeal.lean ====
abbrev S16384x1024 : Shape := ⟨2, ![16384, 1024]⟩
abbrev S16384x128 : Shape := ⟨2, ![16384, 128]⟩
abbrev S4x8x1024x256 : Shape := ⟨4, ![4, 8, 1024, 256]⟩
abbrev S4x8x256x1024 : Shape := ⟨4, ![4, 8, 256, 1024]⟩
abbrev S16384x32 : Shape := ⟨2, ![16384, 32]⟩
abbrev S16384x4x8 : Shape := ⟨3, ![16384, 4, 8]⟩
abbrev S_ : Shape := ⟨0, ![]⟩
abbrev S1x8x1024x256 : Shape := ⟨4, ![1, 8, 1024, 256]⟩
abbrev S8x1024x256 : Shape := ⟨3, ![8, 1024, 256]⟩
abbrev S16384x8x256 : Shape := ⟨3, ![16384, 8, 256]⟩
abbrev S16384x1x8 : Shape := ⟨3, ![16384, 1, 8]⟩
abbrev S16384x8 : Shape := ⟨2, ![16384, 8]⟩
abbrev S16384x8x1 : Shape := ⟨3, ![16384, 8, 1]⟩
abbrev S1x8x256x1024 : Shape := ⟨4, ![1, 8, 256, 1024]⟩
abbrev S8x256x1024 : Shape := ⟨3, ![8, 256, 1024]⟩

abbrev nBuf : Space → Nat
  | .hbm => 111
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x1024, .f32⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S16384x32, .f32⟩
  | .hbm, ⟨7, _⟩ => ⟨S16384x4x8, .f32⟩
  | .hbm, ⟨8, _⟩ => ⟨S_, .f32⟩
  | .hbm, ⟨9, _⟩ => ⟨S16384x1024, .f32⟩
  | .hbm, ⟨10, _⟩ => ⟨S1x8x1024x256, .f32⟩
  | .hbm, ⟨11, _⟩ => ⟨S8x1024x256, .f32⟩
  | .hbm, ⟨12, _⟩ => ⟨S16384x8x256, .f32⟩
  | .hbm, ⟨13, _⟩ => ⟨S1x8x1024x256, .f32⟩
  | .hbm, ⟨14, _⟩ => ⟨S8x1024x256, .f32⟩
  | .hbm, ⟨15, _⟩ => ⟨S16384x8x256, .f32⟩
  | .hbm, ⟨16, _⟩ => ⟨S16384x8x256, .f32⟩
  | .hbm, ⟨17, _⟩ => ⟨S16384x8x256, .f32⟩
  | .hbm, ⟨18, _⟩ => ⟨S_, .f32⟩
  | .hbm, ⟨19, _⟩ => ⟨S16384x8x256, .f32⟩
  | .hbm, ⟨20, _⟩ => ⟨S16384x8x256, .f32⟩
  | .hbm, ⟨21, _⟩ => ⟨S_, .f32⟩
  | .hbm, ⟨22, _⟩ => ⟨S16384x8x256, .f32⟩
  | .hbm, ⟨23, _⟩ => ⟨S16384x8x256, .f32⟩
  | .hbm, ⟨24, _⟩ => ⟨S16384x8x256, .f32⟩
  | .hbm, ⟨25, _⟩ => ⟨S16384x8x256, .f32⟩
  | .hbm, ⟨26, _⟩ => ⟨S16384x1x8, .f32⟩
  | .hbm, ⟨27, _⟩ => ⟨S16384x8, .f32⟩
  | .hbm, ⟨28, _⟩ => ⟨S16384x8x1, .f32⟩
  | .hbm, ⟨29, _⟩ => ⟨S16384x8x256, .f32⟩
  | .hbm, ⟨30, _⟩ => ⟨S16384x8x256, .f32⟩
  | .hbm, ⟨31, _⟩ => ⟨S1x8x256x1024, .f32⟩
  | .hbm, ⟨32, _⟩ => ⟨S8x256x1024, .f32⟩
  | .hbm, ⟨33, _⟩ => ⟨S16384x1024, .f32⟩
  | .hbm, ⟨34, _⟩ => ⟨S16384x1024, .f32⟩
  | .hbm, ⟨35, _⟩ => ⟨S1x8x1024x256, .f32⟩
  | .hbm, ⟨36, _⟩ => ⟨S8x1024x256, .f32⟩
  | .hbm, ⟨37, _⟩ => ⟨S16384x8x256, .f32⟩
  | .hbm, ⟨38, _⟩ => ⟨S1x8x1024x256, .f32⟩
  | .hbm, ⟨39, _⟩ => ⟨S8x1024x256, .f32⟩
  | .hbm, ⟨40, _⟩ => ⟨S16384x8x256, .f32⟩
  | .hbm, ⟨41, _⟩ => ⟨S16384x8x256, .f32⟩
  | .hbm, ⟨42, _⟩ => ⟨S16384x8x256, .f32⟩
  | .hbm, ⟨43, _⟩ => ⟨S_, .f32⟩
  | .hbm, ⟨44, _⟩ => ⟨S16384x8x256, .f32⟩
  | .hbm, ⟨45, _⟩ => ⟨S16384x8x256, .f32⟩
  | .hbm, ⟨46, _⟩ => ⟨S_, .f32⟩
  | .hbm, ⟨47, _⟩ => ⟨S16384x8x256, .f32⟩
  | .hbm, ⟨48, _⟩ => ⟨S16384x8x256, .f32⟩
  | .hbm, ⟨49, _⟩ => ⟨S16384x8x256, .f32⟩
  | .hbm, ⟨50, _⟩ => ⟨S16384x8x256, .f32⟩
  | .hbm, ⟨51, _⟩ => ⟨S16384x1x8, .f32⟩
  | .hbm, ⟨52, _⟩ => ⟨S16384x8, .f32⟩
  | .hbm, ⟨53, _⟩ => ⟨S16384x8x1, .f32⟩
  | .hbm, ⟨54, _⟩ => ⟨S16384x8x256, .f32⟩
  | .hbm, ⟨55, _⟩ => ⟨S16384x8x256, .f32⟩
  | .hbm, ⟨56, _⟩ => ⟨S1x8x256x1024, .f32⟩
  | .hbm, ⟨57, _⟩ => ⟨S8x256x1024, .f32⟩
  | .hbm, ⟨58, _⟩ => ⟨S16384x1024, .f32⟩
  | .hbm, ⟨59, _⟩ => ⟨S16384x1024, .f32⟩
  | .hbm, ⟨60, _⟩ => ⟨S1x8x1024x256, .f32⟩
  | .hbm, ⟨61, _⟩ => ⟨S8x1024x256, .f32⟩
  | .hbm, ⟨62, _⟩ => ⟨S16384x8x256, .f32⟩
  | .hbm, ⟨63, _⟩ => ⟨S1x8x1024x256, .f32⟩
  | .hbm, ⟨64, _⟩ => ⟨S8x1024x256, .f32⟩
  | .hbm, ⟨65, _⟩ => ⟨S16384x8x256, .f32⟩
  | .hbm, ⟨66, _⟩ => ⟨S16384x8x256, .f32⟩
  | .hbm, ⟨67, _⟩ => ⟨S16384x8x256, .f32⟩
  | .hbm, ⟨68, _⟩ => ⟨S_, .f32⟩
  | .hbm, ⟨69, _⟩ => ⟨S16384x8x256, .f32⟩
  | .hbm, ⟨70, _⟩ => ⟨S16384x8x256, .f32⟩
  | .hbm, ⟨71, _⟩ => ⟨S_, .f32⟩
  | .hbm, ⟨72, _⟩ => ⟨S16384x8x256, .f32⟩
  | .hbm, ⟨73, _⟩ => ⟨S16384x8x256, .f32⟩
  | .hbm, ⟨74, _⟩ => ⟨S16384x8x256, .f32⟩
  | .hbm, ⟨75, _⟩ => ⟨S16384x8x256, .f32⟩
  | .hbm, ⟨76, _⟩ => ⟨S16384x1x8, .f32⟩
  | .hbm, ⟨77, _⟩ => ⟨S16384x8, .f32⟩
  | .hbm, ⟨78, _⟩ => ⟨S16384x8x1, .f32⟩
  | .hbm, ⟨79, _⟩ => ⟨S16384x8x256, .f32⟩
  | .hbm, ⟨80, _⟩ => ⟨S16384x8x256, .f32⟩
  | .hbm, ⟨81, _⟩ => ⟨S1x8x256x1024, .f32⟩
  | .hbm, ⟨82, _⟩ => ⟨S8x256x1024, .f32⟩
  | .hbm, ⟨83, _⟩ => ⟨S16384x1024, .f32⟩
  | .hbm, ⟨84, _⟩ => ⟨S16384x1024, .f32⟩
  | .hbm, ⟨85, _⟩ => ⟨S1x8x1024x256, .f32⟩
  | .hbm, ⟨86, _⟩ => ⟨S8x1024x256, .f32⟩
  | .hbm, ⟨87, _⟩ => ⟨S16384x8x256, .f32⟩
  | .hbm, ⟨88, _⟩ => ⟨S1x8x1024x256, .f32⟩
  | .hbm, ⟨89, _⟩ => ⟨S8x1024x256, .f32⟩
  | .hbm, ⟨90, _⟩ => ⟨S16384x8x256, .f32⟩
  | .hbm, ⟨91, _⟩ => ⟨S16384x8x256, .f32⟩
  | .hbm, ⟨92, _⟩ => ⟨S16384x8x256, .f32⟩
  | .hbm, ⟨93, _⟩ => ⟨S_, .f32⟩
  | .hbm, ⟨94, _⟩ => ⟨S16384x8x256, .f32⟩
  | .hbm, ⟨95, _⟩ => ⟨S16384x8x256, .f32⟩
  | .hbm, ⟨96, _⟩ => ⟨S_, .f32⟩
  | .hbm, ⟨97, _⟩ => ⟨S16384x8x256, .f32⟩
  | .hbm, ⟨98, _⟩ => ⟨S16384x8x256, .f32⟩
  | .hbm, ⟨99, _⟩ => ⟨S16384x8x256, .f32⟩
  | .hbm, ⟨100, _⟩ => ⟨S16384x8x256, .f32⟩
  | .hbm, ⟨101, _⟩ => ⟨S16384x1x8, .f32⟩
  | .hbm, ⟨102, _⟩ => ⟨S16384x8, .f32⟩
  | .hbm, ⟨103, _⟩ => ⟨S16384x8x1, .f32⟩
  | .hbm, ⟨104, _⟩ => ⟨S16384x8x256, .f32⟩
  | .hbm, ⟨105, _⟩ => ⟨S16384x8x256, .f32⟩
  | .hbm, ⟨106, _⟩ => ⟨S1x8x256x1024, .f32⟩
  | .hbm, ⟨107, _⟩ => ⟨S8x256x1024, .f32⟩
  | .hbm, ⟨108, _⟩ => ⟨S16384x1024, .f32⟩
  | .hbm, ⟨109, _⟩ => ⟨S16384x1024, .f32⟩
  | .hbm, ⟨110, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call3_v0 : Ref sig .tc := ⟨.hbm, 91, rfl⟩
abbrev main_call3_v1 : Ref sig .tc := ⟨.hbm, 92, rfl⟩
abbrev main_call3_cst : Ref sig .tc := ⟨.hbm, 93, rfl⟩
abbrev main_call3_v2 : Ref sig .tc := ⟨.hbm, 94, rfl⟩
abbrev main_call3_v3 : Ref sig .tc := ⟨.hbm, 95, rfl⟩
abbrev main_call3_cst_0 : Ref sig .tc := ⟨.hbm, 96, rfl⟩
abbrev main_call3_v4 : Ref sig .tc := ⟨.hbm, 97, rfl⟩
abbrev main_call3_v5 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Soft.lean ====
/- Softmax-weighted sums over the extended reals: facts about sums, maxima and quotients, no program. -/
module

public import Idealize.ShloMosaic.Lib.Pointwise
public import Idealize.ShloMosaic.PureOps.Ideal

@[expose] public section

noncomputable section

open Idealize.ShloMosaic
open scoped BigOperators

namespace Cert.Soft

/-- An extended real that is a real number. -/
def IsReal (x : EReal) : Prop := ∃ r : ℝ, x = (r : EReal)

/-- A product of real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of two real numbers is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of real numbers is real. -/
theorem IsReal.sum {ι : Type*} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A number whose absolute value is below infinity is real. -/
theorem isReal_of_abs_lt {x : EReal} (h : max x (-x) < ⊤) : IsReal x := by
  induction x using EReal.rec with
  | bot => simp at h
  | coe r => exact ⟨r, rfl⟩
  | top => simp at h

/-- A sum times a nonnegative real factor, term by term. -/
theorem sum_mul {ι : Type*} (s : Finset ι) (a : ι → EReal) (c : ℝ) (hc : 0 ≤ c) :
    (∑ j ∈ s, a j) * (c : EReal) = ∑ j ∈ s, a j * (c : EReal) := by
  classical
  induction s using Finset.induction_on with
  | empty => simp
  | insert b s hb ih =>
    rw [Finset.sum_insert hb, Finset.sum_insert hb,
      EReal.right_distrib_of_nonneg_of_ne_top (EReal.coe_nonneg.2 hc) (EReal.coe_ne_top c), ih]

/-- The maximum of finitely many reals, at least one, is real. -/
theorem isReal_fold {ι : Type*} [Fintype ι] [Nonempty ι] {s : ι → EReal} (h : ∀ j, IsReal (s j)) :
    IsReal (Finset.univ.fold max ⊥ s) := by
  obtain ⟨j, -, hj⟩ := Finset.exists_mem_eq_sup Finset.univ Finset.univ_nonempty s
  have e : Finset.univ.fold max ⊥ s = Finset.univ.sup s := rfl
  rw [e, hj]
  exact h j

/-- Exponential weights of real scores taken below a real shift. -/
def weight {ι : Type*} (s : ι → EReal) (M : EReal) (j : ι) : EReal := Ideal.exp (s j - M)

/-- A finite sum of reals is the same among the extended reals. -/
theorem coe_sum {ι : Type*} (s : Finset ι) (f : ι → ℝ) : ∑ j ∈ s, ((f j : ℝ) : EReal) = ((∑ j ∈ s, f j : ℝ) : EReal) := by
  classical
  induction s using Finset.induction_on with
  | empty => simp
  | insert b s hb ih => rw [Finset.sum_insert hb, Finset.sum_insert hb, ih, EReal.coe_add]

/-- The softmax weights of real scores have a positive real sum. -/
theorem sum_weight {ι : Type*} [Fintype ι] [Nonempty ι] {s : ι → EReal} (h : ∀ j, IsReal (s j)) {M : EReal} (hM : IsReal M) :
    ∃ L : ℝ, 0 < L ∧ ∑ j, weight s M j = (L : EReal) := by
  choose r hr using h
  obtain ⟨M, rfl⟩ := hM
  refine ⟨∑ j, Real.exp (r j - M), Finset.sum_pos (fun j _ => Real.exp_pos _) Finset.univ_nonempty, ?_⟩
  rw [← coe_sum]
  refine Finset.sum_congr rfl fun j _ => ?_
  rw [weight, hr j, ← EReal.coe_sub, Ideal.exp_coe]

/-- Dividing the weighted sum by the weights' total is weighting by the divided weights. -/
theorem div_sum {ι : Type*} [Fintype ι] [Nonempty ι] {s : ι → EReal} (h : ∀ j, IsReal (s j)) {M : EReal} (hM : IsReal M)
    (v : ι → EReal) :
    Ideal.div (∑ j, weight s M j * v j) (∑ j, weight s M j) = ∑ j, v j * Ideal.div (weight s M j) (∑ i, weight s M i) := by
  obtain ⟨L, hL, e⟩ := sum_weight h hM
  have hne : L ≠ 0 := hL.ne'
  rw [e, Ideal.div_coe hne, sum_mul _ _ _ (by positivity)]
  refine Finset.sum_congr rfl fun j _ => ?_
  rw [Ideal.div_coe hne, mul_comm (v j), mul_right_comm]

/-- One row of attention: the values weighted by the softmax of the scores. -/
def attend {ι : Type*} [Fintype ι] (s v : ι → EReal) : EReal :=
  ∑ j, v j * Ideal.div (weight s (Finset.univ.fold max ⊥ s) j) (∑ i, weight s (Finset.univ.fold max ⊥ s) i)

/-- For real scores, dividing after the weighted sum or before it gives the same. -/
theorem attend_eq {ι : Type*} [Fintype ι] [Nonempty ι] {s : ι → EReal} (h : ∀ j, IsReal (s j)) (v : ι → EReal) :
    Ideal.div (∑ j, Ideal.exp (s j - Finset.univ.fold max ⊥ s) * v j) (∑ j, Ideal.exp (s j - Finset.univ.fold max ⊥ s))
      = attend s v :=
  div_sum h (isReal_fold h) v

/-- The word 0xFF800000 is -inf. -/
theorem neg_inf : Ideal.ofBits .f32 0xFF800000#32 = (⊥ : EReal) := by
  simp [Ideal.ofBits, Ideal.ieee]

/-- The word 0x7F800000 is +inf. -/
theorem pos_inf : Ideal.ofBits .f32 0x7F800000#32 = (⊤ : EReal) := by
  simp [Ideal.ofBits, Ideal.ieee]

/-- The word 0x3E000000 is 1/8. -/
theorem eighth : Ideal.ofBits .f32 0x3E000000#32 = ((1 / 8 : ℝ) : EReal) := by
  simp [Ideal.ofBits, Ideal.ieee]
  rw [← EReal.coe_mul]
  norm_num

end Cert.Soft

end
-- ==== Proof.MemPay.lean ====
/- Hand-written, untrusted: what one grid point of the cross-attention call stores, read at an index. -/
module

public import proofs.«01_k».proof.Proof.Gen.KernelIdeal.Skeleton
public import proofs.«01_k».proof.Proof.Soft

@[expose] public section

set_option maxRecDepth 16384

noncomputable section

open Idealize.ShloMosaic Idealize.ShloMosaic.TcCoe Idealize.SL.Sem
open scoped BigOperators

namespace Cert.KernelIdeal.Mem

open Cert.KernelIdeal Cert.KernelIdeal.Gen Cert.Soft

/-- Lane `64 h + d` of a pair of heads. -/
def lane (h : Fin 2) (d : Fin 64) : Fin 128 := ⟨64 * h + d, by omega⟩

/-- The score of query row `r` against key row `j` for head `h` of a pair. -/
def score (q : FVec Ideal S512x128 .f32) (k : FVec Ideal S1x256x128 .f32) (r : Fin 512) (h : Fin 2) (j : Fin 256) : EReal :=
  (∑ d : Fin 64, q (ix2 r (lane h d)) * k (ix3 0 j (lane h d))) * ((1 / 8 : ℝ) : EReal)

/-- The first 64 lanes of a pair of heads pass the test for the first head. -/
theorem low_lane : ∀ x : Fin 64, IntOp.cmpi .slt (BitVec.ofNat 32 (x : ℕ)) 64#32 = 1#1 := by decide +kernel

/-- The last 64 lanes of a pair of heads fail the test for the first head. -/
theorem high_lane : ∀ x : Fin 64, IntOp.cmpi .slt (BitVec.ofNat 32 (64 + (x : ℕ))) 64#32 = 0#1 := by decide +kernel

/-- The low lanes' masked product over both heads' lanes is head 0's score. -/
theorem low_score (q : FVec Ideal S512x128 .f32) (k : FVec Ideal S1x256x128 .f32) (r : Fin 512) (j : Fin 256) :
    (∑ x : Fin 128, Scalar.select (IntOp.cmpi CmpIPredicate.slt (BitVec.ofNat 32 (x : ℕ)) 64#32)
      (q (ix2 r x) * Ideal.ofBits FTy.f32 1040187392#32 * k (ix3 0 j x)) (0 : EReal)) = score q k r 0 j := by
  rw [Fin.sum_univ_two_halves 64 64 rfl, score, sum_mul _ _ _ (by norm_num)]
  have z : ∀ x : Fin 64, Scalar.select (IntOp.cmpi CmpIPredicate.slt (BitVec.ofNat 32 (64 + (x : ℕ))) 64#32)
      (q (ix2 r ⟨64 + x, by omega⟩) * Ideal.ofBits FTy.f32 1040187392#32 * k (ix3 0 j ⟨64 + x, by omega⟩)) (0 : EReal) = 0 := fun x => by
    rw [high_lane]; rfl
  rw [Finset.sum_congr rfl fun x _ => z x, Finset.sum_const_zero, add_zero]
  refine Finset.sum_congr rfl fun d _ => ?_
  have e : lane 0 d = ⟨d, by omega⟩ := Fin.ext (by simp [lane])
  rw [low_lane, e, eighth, mul_right_comm]
  rfl

/-- The high lanes' masked product is head 1's score. -/
theorem high_score (q : FVec Ideal S512x128 .f32) (k : FVec Ideal S1x256x128 .f32) (r : Fin 512) (j : Fin 256) :
    (∑ x : Fin 128, Scalar.select (IntOp.cmpi CmpIPredicate.slt (BitVec.ofNat 32 (x : ℕ)) 64#32) (0 : EReal)
      (q (ix2 r x) * Ideal.ofBits FTy.f32 1040187392#32 * k (ix3 0 j x))) = score q k r 1 j := by
  rw [Fin.sum_univ_two_halves 64 64 rfl, score, sum_mul _ _ _ (by norm_num)]
  have z : ∀ x : Fin 64, Scalar.select (IntOp.cmpi CmpIPredicate.slt (BitVec.ofNat 32 (x : ℕ)) 64#32) (0 : EReal)
      (q (ix2 r ⟨x, by omega⟩) * Ideal.ofBits FTy.f32 1040187392#32 * k (ix3 0 j ⟨x, by omega⟩)) = 0 := fun x => by
    rw [low_lane]; rfl
  rw [Finset.sum_congr rfl fun x _ => z x, Finset.sum_const_zero, zero_add]
  refine Finset.sum_congr rfl fun d _ => ?_
  have e : lane 1 d = ⟨64 + d, by omega⟩ := Fin.ext (by simp [lane])
  rw [high_lane, e, eighth, mul_right_comm]
  rfl

/-- A pair of heads' output: each lane attends by its own head's scores. -/
theorem pair_apply (q : FVec Ideal S512x128 .f32) (k v : FVec Ideal S1x256x128 .f32) (r : Fin 512) (h : Fin 2) (d : Fin 64)
    (hs : ∀ h j, IsReal (score q k r h j)) :
    k0_pay2 (F := Ideal) q k v (ix2 r (lane h d)) = attend (score q k r h) fun j => v (ix3 0 j (lane h d)) := by
  rw [← attend_eq (hs h)]
  pointwise [k0_pay2, k0_pay1]
  simp only [low_score, high_score, neg_inf]
  obtain rfl | rfl : h = 0 ∨ h = 1 := by omega
  · rw [show ((lane 0 d : Fin 128) : ℕ) = (d : ℕ) by simp [lane], low_lane]; rfl
  · rw [show ((lane 1 d : Fin 128) : ℕ) = 64 + (d : ℕ) by simp [lane], high_lane]; rfl

/-- The rows put to unit mean square and scaled by the gain. -/
def normed (y : FVec Ideal S512x256 .f32) (g : FVec Ideal S1x256 .f32) : FVec Ideal S512x256 .f32 :=
  mulf (mulf y (broadcastTo S512x256 (rsqrt (addf (divf (shapeCast S512x1 (multiReduction .add [1] S512 (mulf y y) 0x00000000#32
    reduces_S512x256_S512 (.inl rfl) rfl) shapeCasts_S512_S512x1) (broadcast S512x1 (Scalar.ofBits .f32 0x43800000#32)))
    (broadcast S512x1 (Scalar.ofBits .f32 0x358637BD#32)))) broadcasts_S512x1_S512x256))
    (broadcastTo S512x256 (shapeCast S1x256 g shapeCasts_S1x256_S1x256) broadcasts_S1x256_S512x256)

/-- What the second pair's step stores, written with the named stages. -/
theorem pay5_eq (x q : FVec Ideal S512x128 .f32) (k v : FVec Ideal S1x256x128 .f32) (g : FVec Ideal S1x256 .f32) :
    k0_pay5 (F := Ideal) k0_pay1 x (k0_pay3 q) (k0_pay4 q) k v g
      = normed (concatenate S512x256 1 [⟨S512x128, x⟩, ⟨S512x128, k0_pay2 q k v⟩] concatenates_S512x128_S512x128_S512x256_d1) g := rfl

/-- An entry of the normalised row: the entry by the row's inverse root mean square and the gain. -/
theorem normed_apply (y : FVec Ideal S512x256 .f32) (g : FVec Ideal S1x256 .f32) (r : Fin 512) (l : Fin 256) :
    normed y g (ix2 r l) = y (ix2 r l) * Ideal.rsqrt (Ideal.div (∑ x : Fin 256, y (ix2 r x) * y (ix2 r x)) (Ideal.ofBits .f32 0x43800000#32)
      + Ideal.ofBits .f32 0x358637BD#32) * g (ix2 0 l) := by
  pointwise [normed]

end Cert.KernelIdeal.Mem

end
-- ==== Proof.MemRef.lean ====
/- Hand-written, untrusted: the cross-attention reference's result read at an index. -/
module

public import proofs.«01_k».proof.Proof.Gen.ReferenceIdeal.Run
public import proofs.«01_k».proof.Proof.Soft

@[expose] public section

set_option maxRecDepth 16384

noncomputable section

open Idealize.ShloMosaic Idealize.ShloMosaic.TcCoe Idealize.SL.Sem
open scoped BigOperators

namespace Cert.ReferenceIdeal.Mem

open Cert.ReferenceIdeal Cert.ReferenceIdeal.Gen Cert.Soft

/-- The scores of every query against the memory keys. -/
def logits (q : FVec Ideal S16384x256 .f32) (k : FVec Ideal S1024x256 .f32) : FVec Ideal S4x4x4096x256 .f32 :=
  mulf (Host.dotGeneral dot_S4x4096x4x64_S4x256x4x64_S4x4x4096x256_3_3_1_1_02_02 none
    (shapeCast S4x4096x4x64 q shapeCasts_S16384x256_S4x4096x4x64) (shapeCast S4x256x4x64 k shapeCasts_S1024x256_S4x256x4x64))
    (broadcastInDim S4x4x4096x256 ![] bcast_S_S4x4x4096x256 (constant S_ .f32 0x3E000000#32))

/-- Each row's maximum. -/
def rowMax (s : FVec Ideal S4x4x4096x256 .f32) : FVec Ideal S4x4x4096 .f32 :=
  Host.reduce FloatOps.maximumf s (constant S_ .f32 0xFF800000#32) reducesTo_S4x4x4096x256_S4x4x4096_d3 h_S_

/-- Each row's sum. -/
def rowSum (s : FVec Ideal S4x4x4096x256 .f32) : FVec Ideal S4x4x4096 .f32 :=
  Host.reduceAdd s (constant S_ .f32 0x00000000#32) reducesTo_S4x4x4096x256_S4x4x4096_d3 h_S_

/-- One number per row set beside every entry of the row. -/
def spread (x : FVec Ideal S4x4x4096 .f32) : FVec Ideal S4x4x4096x256 .f32 :=
  broadcastInDim S4x4x4096x256 ![0, 1, 2, 3] bcast_S4x4x4096x1_S4x4x4096x256_0_1_2_3
    (broadcastInDim S4x4x4096x1 ![0, 1, 2] bcast_S4x4x4096_S4x4x4096x1_0_1_2 x)

/-- The exponentials of the scores below each row's maximum. -/
def expo (s : FVec Ideal S4x4x4096x256 .f32) : FVec Ideal S4x4x4096x256 .f32 :=
  Host.exp (subf s (spread (maximumf (broadcastInDim S4x4x4096 ![] bcast_S_S4x4x4096 (constant S_ .f32 0xFF800000#32)) (rowMax s))))

/-- Each row divided by its sum. -/
def divided (e : FVec Ideal S4x4x4096x256 .f32) : FVec Ideal S4x4x4096x256 .f32 := Host.divf e (spread (rowSum e))

/-- The values weighted by it. -/
def context (p : FVec Ideal S4x4x4096x256 .f32) (v : FVec Ideal S1024x256 .f32) : FVec Ideal S4x4096x256 .f32 :=
  shapeCast S4x4096x256 (transpose S4x4096x4x64 [0, 3, 1, 2]
    (Host.dotGeneral dot_S4x256x4x64_S4x4x4096x256_S4x4x64x4096_1_3_3_2_02_01 none
      (shapeCast S4x256x4x64 v shapeCasts_S1024x256_S4x256x4x64) p) transposes_S4x4x64x4096_S4x4096x4x64_0_3_1_2)
    shapeCasts_S4x4096x4x64_S4x4096x256

/-- A score is the product of the query's and the key's head, by 1/8. -/
theorem logits_apply (q : FVec Ideal S16384x256 .f32) (k : FVec Ideal S1024x256 .f32) (b h : Fin 4) (t : Fin 4096) (j : Fin 256) :
    logits q k (ix4 b h t j) = (∑ d : Fin 64, q (ix2 ⟨4096 * b + t, by omega⟩ ⟨64 * h + d, by omega⟩)
      * k (ix2 ⟨256 * b + j, by omega⟩ ⟨64 * h + d, by omega⟩)) * ((1 / 8 : ℝ) : EReal) := by
  pointwise [logits]
  rw [eighth]
  refine congrArg (· * _) (Finset.sum_congr rfl fun x _ => ?_)
  have e1 : (⟨(b : ℕ) * 4096 + t, by omega⟩ : Fin 16384) = ⟨4096 * b + t, by omega⟩ := Fin.ext (by simp; omega)
  have e2 : (⟨(h : ℕ) * 64 + x, by omega⟩ : Fin 256) = ⟨64 * h + x, by omega⟩ := Fin.ext (by simp; omega)
  have e3 : (⟨(b : ℕ) * 256 + j, by omega⟩ : Fin 1024) = ⟨256 * b + j, by omega⟩ := Fin.ext (by simp; omega)
  rw [e1, e2, e3]

/-- The largest score of a row. -/
theorem rowMax_apply (s : FVec Ideal S4x4x4096x256 .f32) (b h : Fin 4) (t : Fin 4096) :
    rowMax s (ix3 b h t) = Finset.univ.fold max (⊥ : EReal) fun j => s (ix4 b h t j) := by
  pointwise [rowMax]
  rw [neg_inf]

/-- The sum of a row's entries. -/
theorem rowSum_apply (s : FVec Ideal S4x4x4096x256 .f32) (b h : Fin 4) (t : Fin 4096) :
    rowSum s (ix3 b h t) = ∑ j, s (ix4 b h t j) := by
  pointwise [rowSum]

/-- A row's number laid over the row is that number everywhere. -/
theorem spread_apply (x : FVec Ideal S4x4x4096 .f32) (b h : Fin 4) (t : Fin 4096) (j : Fin 256) :
    spread x (ix4 b h t j) = x (ix3 b h t) := by
  pointwise [spread]

/-- The exponential of a difference, at an entry. -/
theorem exp_sub (s z : FVec Ideal S4x4x4096x256 .f32) (i : S4x4x4096x256.Idx) : Host.exp (subf s z) i = Ideal.exp (s i - z i) := rfl

/-- The maximum with a constant, at an entry. -/
theorem max_const (w : BitVec 32) (z : FVec Ideal S4x4x4096 .f32) (i : S4x4x4096.Idx) :
    maximumf (broadcastInDim S4x4x4096 ![] bcast_S_S4x4x4096 (constant S_ .f32 w)) z i = max (Ideal.ofBits .f32 w) (z i) := rfl

/-- The exponentials of a row are the softmax weights before the division. -/
theorem expo_apply (s : FVec Ideal S4x4x4096x256 .f32) (b h : Fin 4) (t : Fin 4096) (j : Fin 256) :
    expo s (ix4 b h t j) = weight (fun j => s (ix4 b h t j)) (Finset.univ.fold max ⊥ fun j => s (ix4 b h t j)) j := by
  rw [expo, exp_sub, spread_apply, max_const, neg_inf, rowMax_apply, max_eq_right bot_le, weight]

/-- A quotient of arrays, at an entry. -/
theorem div_eq (x y : FVec Ideal S4x4x4096x256 .f32) (i : S4x4x4096x256.Idx) : Host.divf x y i = Ideal.div (x i) (y i) := rfl

/-- The softmax weights: each exponential by the row's sum. -/
theorem divided_apply (s : FVec Ideal S4x4x4096x256 .f32) (b h : Fin 4) (t : Fin 4096) (j : Fin 256) :
    divided (expo s) (ix4 b h t j) = Ideal.div (weight (fun j => s (ix4 b h t j)) (Finset.univ.fold max ⊥ fun j => s (ix4 b h t j)) j)
      (∑ i, weight (fun j => s (ix4 b h t j)) (Finset.univ.fold max ⊥ fun j => s (ix4 b h t j)) i) := by
  rw [divided, div_eq, spread_apply, rowSum_apply, expo_apply]
  exact congrArg _ (Finset.sum_congr rfl fun i _ => expo_apply s b h t i)

/-- The attended row: the values weighted by the row's entries and summed over the memory rows. -/
theorem context_apply (p : FVec Ideal S4x4x4096x256 .f32) (v : FVec Ideal S1024x256 .f32) (b h : Fin 4) (t : Fin 4096) (d : Fin 64) :
    context p v (ix3 b t ⟨64 * h + d, by omega⟩) = ∑ j : Fin 256, v (ix2 ⟨256 * b + j, by omega⟩ ⟨64 * h + d, by omega⟩) * p (ix4 b h t j) := by
  pointwise [context]
  refine Finset.sum_congr rfl fun j _ => ?_
  have e2 : (⟨(h : ℕ) * 64 + d, by omega⟩ : Fin 256) = ⟨64 * h + d, by omega⟩ := Fin.ext (by simp; omega)
  have e3 : (⟨(b : ℕ) * 256 + j, by omega⟩ : Fin 1024) = ⟨256 * b + j, by omega⟩ := Fin.ext (by simp; omega)
  rw [e2, e3]

/-- The rows put to unit mean square and scaled by the gain's last quarter. -/
def normed (y : FVec Ideal S4x4096x256 .f32) (g : FVec Ideal S1024 .f32) : FVec Ideal S16384x256 .f32 :=
  shapeCast S16384x256 (mulf (mulf y (broadcastInDim S4x4096x256 ![0, 1, 2] bcast_S4x4096x1_S4x4096x256_0_1_2
    (Host.rsqrt (addf (Host.divf (broadcastInDim S4x4096x1 ![0, 1] bcast_S4x4096_S4x4096x1_0_1
      (Host.reduceAdd (mulf y y) (constant S_ .f32 0x00000000#32) reducesTo_S4x4096x256_S4x4096_d2 h_S_))
      (broadcastInDim S4x4096x1 ![] bcast_S_S4x4096x1 (constant S_ .f32 0x43800000#32)))
      (broadcastInDim S4x4096x1 ![] bcast_S_S4x4096x1 (constant S_ .f32 0x358637BD#32))))))
    (broadcastInDim S4x4096x256 ![0, 1, 2] bcast_S1x1x256_S4x4096x256_0_1_2 (broadcastInDim S1x1x256 ![2] bcast_S256_S1x1x256_2
      (extractStridedSlice S256 ![768] g slices_S1024_S256_768)))) shapeCasts_S4x4096x256_S16384x256

/-- An entry of the reference's normalised row: the entry by the row's inverse root mean square and the gain's last quarter. -/
theorem normed_apply (y : FVec Ideal S4x4096x256 .f32) (g : FVec Ideal S1024 .f32) (r : Fin 16384) (l : Fin 256) :
    normed y g (ix2 r l) = y (ix3 ⟨r / 4096, by omega⟩ ⟨r % 4096, by omega⟩ l)
      * Ideal.rsqrt (Ideal.div (∑ x : Fin 256, y (ix3 ⟨r / 4096, by omega⟩ ⟨r % 4096, by omega⟩ x) * y (ix3 ⟨r / 4096, by omega⟩ ⟨r % 4096, by omega⟩ x))
        (Ideal.ofBits .f32 0x43800000#32) + Ideal.ofBits .f32 0x358637BD#32) * g (ix1 ⟨768 + l, by omega⟩) := by
  pointwise [normed]

/-- The reference's composed term over its stages. -/
def ref (q : FVec Ideal S16384x256 .f32) (k v : FVec Ideal S1024x256 .f32) (g : FVec Ideal S1024 .f32) : FVec Ideal S16384x256 .f32 :=
  normed (context (divided (expo (logits q k))) v) g

/-- The generated result of the reference is `ref` of its arguments. -/
theorem res_eq (m : (ℓ : Loc nD τ sig) → Buf (Elt Ideal) ℓ) (c : Dev nD) :
    Value.res_out0 m c = ref (m ((c.tc : Thread nD τ).loc main_arg0)) (m ((c.tc : Thread nD τ).loc main_arg1))
      (m ((c.tc : Thread nD τ).loc main_arg2)) (m ((c.tc : Thread nD τ).loc main_arg3)) := by
  unfold Value.res_out0 Value.res_main_v34 ref normed context divided expo logits rowSum rowMax spread
  rfl

/-- The context of head `h`'s lane `d` at row `t` of sequence `b`: attention over the sequence's 256 memory rows. -/
theorem context_ref (q : FVec Ideal S16384x256 .f32) (k v : FVec Ideal S1024x256 .f32) (b h : Fin 4) (t : Fin 4096) (d : Fin 64) :
    context (divided (expo (logits q k))) v (ix3 b t ⟨64 * h + d, by omega⟩) =
      attend (fun j : Fin 256 => (∑ d : Fin 64, q (ix2 ⟨4096 * b + t, by omega⟩ ⟨64 * h + d, by omega⟩)
        * k (ix2 ⟨256 * b + j, by omega⟩ ⟨64 * h + d, by omega⟩)) * ((1 / 8 : ℝ) : EReal))
        fun j => v (ix2 ⟨256 * b + j, by omega⟩ ⟨64 * h + d, by omega⟩) := by
  rw [context_apply, attend]
  simp only [divided_apply, logits_apply]

end Cert.ReferenceIdeal.Mem

end
-- ==== Proof.MemPoint.lean ====
/- Hand-written, untrusted: one grid point's stored block beside the reference, over variables. -/
module

public import proofs.«01_k».proof.Proof.MemPay
public import proofs.«01_k».proof.Proof.MemRef

@[expose] public section

set_option maxRecDepth 16384

noncomputable section

open Idealize.ShloMosaic Idealize.ShloMosaic.TcCoe Idealize.SL.Sem
open scoped BigOperators

namespace Cert.KernelIdeal.Mem

open Cert.KernelIdeal Cert.KernelIdeal.Gen Cert.Soft

/-- Head `h` of pair `p`. -/
def head (p h : Fin 2) : Fin 4 := ⟨2 * p + h, by omega⟩

/-- A pair of heads read at a row and lane is the reference's context there, when its blocks are the arrays' parts. -/
theorem pair_context (Q : FVec Ideal S16384x256 .f32) (K V : FVec Ideal S1024x256 .f32)
    (hQ : ∀ i, IsReal (Q i)) (hK : ∀ i, IsReal (K i))
    (q : FVec Ideal S512x128 .f32) (k v : FVec Ideal S1x256x128 .f32) (b : Fin 4) (t : Fin 4096) (p : Fin 2) (r : Fin 512)
    (hq : ∀ x : Fin 128, q (ix2 r x) = Q (ix2 ⟨4096 * b + t, by omega⟩ ⟨128 * p + x, by omega⟩))
    (hk : ∀ (j : Fin 256) (x : Fin 128), k (ix3 0 j x) = K (ix2 ⟨256 * b + j, by omega⟩ ⟨128 * p + x, by omega⟩))
    (hv : ∀ (j : Fin 256) (x : Fin 128), v (ix3 0 j x) = V (ix2 ⟨256 * b + j, by omega⟩ ⟨128 * p + x, by omega⟩))
    (h : Fin 2) (d : Fin 64) :
    k0_pay2 (F := Ideal) q k v (ix2 r (lane h d))
      = Cert.ReferenceIdeal.Mem.context (Cert.ReferenceIdeal.Mem.divided (Cert.ReferenceIdeal.Mem.expo (Cert.ReferenceIdeal.Mem.logits Q K))) V
          (ix3 b t ⟨128 * p + lane h d, by omega⟩) := by
  have hreal : ∀ h j, IsReal (score q k r h j) := fun h j => by
    refine IsReal.mul (IsReal.sum _ fun d => ?_) ⟨_, rfl⟩
    rw [hq, hk]
    exact (hQ _).mul (hK _)
  have el : ∀ (h : Fin 2) (d : Fin 64), (⟨128 * p + lane h d, by omega⟩ : Fin 256) = ⟨64 * head p h + d, by omega⟩ :=
    fun h d => Fin.ext (by simp [lane, head]; omega)
  rw [pair_apply q k v r h d hreal, el h d, Cert.ReferenceIdeal.Mem.context_ref]
  refine congrArg₂ attend (funext fun j => ?_) (funext fun j => ?_)
  · refine congrArg (· * _) (Finset.sum_congr rfl fun d _ => ?_)
    rw [hq, hk, el h d]
  · rw [hv, el h d]

/-- The stored block read at an index, when both pairs of heads give the row `Y`. -/
theorem stored_apply (q0 q1 : FVec Ideal S512x128 .f32) (ka va kb vb : FVec Ideal S1x256x128 .f32) (g : FVec Ideal S1x256 .f32)
    (r : Fin 512) (l : Fin 256) (Y : Fin 256 → EReal)
    (h0 : ∀ x : Fin 128, k0_pay2 (F := Ideal) q0 ka va (ix2 r x) = Y ⟨x, by omega⟩)
    (h1 : ∀ x : Fin 128, k0_pay2 (F := Ideal) q1 kb vb (ix2 r x) = Y ⟨128 + x, by omega⟩) :
    k0_pay5 (F := Ideal) k0_pay1 (k0_pay2 q0 ka va) (k0_pay3 q1) (k0_pay4 q1) kb vb g (ix2 r l)
      = Y l * Ideal.rsqrt (Ideal.div (∑ x : Fin 256, Y x * Y x) (Ideal.ofBits .f32 0x43800000#32) + Ideal.ofBits .f32 0x358637BD#32)
        * g (ix2 0 l) := by
  have hy : ∀ x : Fin 256, concatenate S512x256 1 [⟨S512x128, k0_pay2 (F := Ideal) q0 ka va⟩, ⟨S512x128, k0_pay2 (F := Ideal) q1 kb vb⟩]
      concatenates_S512x128_S512x128_S512x256_d1 (ix2 r x) = Y x := fun x => by
    generalize e0 : k0_pay2 (F := Ideal) q0 ka va = y0 at h0 ⊢
    generalize e1 : k0_pay2 (F := Ideal) q1 kb vb = y1 at h1 ⊢
    pointwise
    by_cases hx : (x : ℕ) < 128
    · rw [dif_pos hx, h0]
    · rw [dif_neg hx, h1]
      exact congrArg Y (Fin.ext (by simp; omega))
  rw [pay5_eq, normed_apply]
  simp only [hy]

end Cert.KernelIdeal.Mem

end
-- ==== Proof.MemValue.lean ====
/- Hand-written, untrusted: the cross-attention call's result array is the reference's. -/
module

public import proofs.«01_k».proof.Proof.Gen.KernelIdeal.Value
public import proofs.«01_k».proof.Proof.MemPoint
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.KernelIdeal.Mem

open Cert.KernelIdeal Cert.KernelIdeal.Gen Cert.Soft

variable (m : (ℓ : Loc nD τ sig) → Buf (Elt Ideal) ℓ)

/-- Every window's block index at a grid point: eight blocks of 512 rows per sequence. -/
theorem idx : ∀ t : Fin cfg0.N, win0_0.index t = ![t.val, 0]
    ∧ win0_1.index t = ![t.val / 8, 0, 0]
    ∧ win0_2.index t = ![t.val / 8, 0, 0]
    ∧ win0_3.index t = ![0, 0]
    ∧ win0_4.index t = ![t.val, 0]
    ∧ t.val < 32 :=
  (by decide +kernel : ∀ t : Fin grid0.N, _)

abbrev Qa (c : Dev nD) : FVec Ideal S16384x256 .f32 := m ((c : Thread nD τ).loc main_arg0)
abbrev Ka (c : Dev nD) : FVec Ideal S1024x256 .f32 := m ((c : Thread nD τ).loc main_arg1)
abbrev Va (c : Dev nD) : FVec Ideal S1024x256 .f32 := m ((c : Thread nD τ).loc main_arg2)
abbrev Ga (c : Dev nD) : FVec Ideal S1024 .f32 := m ((c : Thread nD τ).loc main_arg3)

/-- The query block of point `t`. -/
theorem q_block (c : Dev nD) (t : Fin cfg0.N) (ht : t.val < 32) (r : Fin 512) (x : Fin 256) :
    iblk m c 0 t (ix2 r x) = Qa m c (ix2 ⟨512 * t.val + r, by omega⟩ x) := by
  blk_ext [iblk, V, idx t]

/-- The key block of point `t` holds the 256 memory keys of the point's sequence. -/
theorem k_block (c : Dev nD) (t : Fin cfg0.N) (ht : t.val < 32) (j : Fin 256) (x : Fin 256) :
    iblk m c 1 t (ix3 0 j x) = Ka m c (ix2 ⟨256 * (t.val / 8) + j, by omega⟩ x) := by
  blk_point [iblk, V, idx t]

/-- The value block of point `t` holds the 256 memory values of the point's sequence. -/
theorem v_block (c : Dev nD) (t : Fin cfg0.N) (ht : t.val < 32) (j : Fin 256) (x : Fin 256) :
    iblk m c 2 t (ix3 0 j x) = Va m c (ix2 ⟨256 * (t.val / 8) + j, by omega⟩ x) := by
  blk_point [iblk, V, idx t]

/-- The gain block is the last quarter of the output gain. -/
theorem g_block (c : Dev nD) (t : Fin cfg0.N) (ht : t.val < 32) (x : Fin 256) :
    iblk m c 3 t (ix2 0 x) = Ga m c (ix1 ⟨768 + x, by omega⟩) := by
  blk_point [iblk, V, idx t]

/-! The parts of the blocks that one pair of heads loads. -/

/-- The first pair of heads of the query block. -/
theorem q_low (c : Dev nD) (t : Fin cfg0.N) (ht : t.val < 32) (r : Fin 512) (x : Fin 128) :
    View.ld (iblk m c 0 t) r0_0 (ix2 r x) = Qa m c (ix2 ⟨512 * t.val + r, by omega⟩ ⟨x, by omega⟩) := by
  pointwise
  exact q_block m c t ht r ⟨x, by omega⟩

/-- The second pair of heads of the query block. -/
theorem q_high (c : Dev nD) (t : Fin cfg0.N) (ht : t.val < 32) (r : Fin 512) (x : Fin 128) :
    View.ld (iblk m c 0 t) r0_2 (ix2 r x) = Qa m c (ix2 ⟨512 * t.val + r, by omega⟩ ⟨128 + x, by omega⟩) := by
  pointwise
  exact q_block m c t ht r ⟨128 + x, by omega⟩

/-- The first pair of heads of the key block. -/
theorem k_low (c : Dev nD) (t : Fin cfg0.N) (ht : t.val < 32) (j : Fin 256) (x : Fin 128) :
    View.ld (iblk m c 1 t) r0_1 (ix3 0 j x) = Ka m c (ix2 ⟨256 * (t.val / 8) + j, by omega⟩ ⟨x, by omega⟩) := by
  pointwise
  exact k_block m c t ht j ⟨x, by omega⟩

/-- The second pair of heads of the key block. -/
theorem k_high (c : Dev nD) (t : Fin cfg0.N) (ht : t.val < 32) (j : Fin 256) (x : Fin 128) :
    View.ld (iblk m c 1 t) r0_3 (ix3 0 j x) = Ka m c (ix2 ⟨256 * (t.val / 8) + j, by omega⟩ ⟨128 + x, by omega⟩) := by
  pointwise
  exact k_block m c t ht j ⟨128 + x, by omega⟩

/-- The first pair of heads of the value block. -/
theorem v_low (c : Dev nD) (t : Fin cfg0.N) (ht : t.val < 32) (j : Fin 256) (x : Fin 128) :
    View.ld (iblk m c 2 t) r0_1 (ix3 0 j x) = Va m c (ix2 ⟨256 * (t.val / 8) + j, by omega⟩ ⟨x, by omega⟩) := by
  pointwise
  exact v_block m c t ht j ⟨x, by omega⟩

/-- The second pair of heads of the value block. -/
theorem v_high (c : Dev nD) (t : Fin cfg0.N) (ht : t.val < 32) (j : Fin 256) (x : Fin 128) :
    View.ld (iblk m c 2 t) r0_3 (ix3 0 j x) = Va m c (ix2 ⟨256 * (t.val / 8) + j, by omega⟩ ⟨128 + x, by omega⟩) := by
  pointwise
  exact v_block m c t ht j ⟨128 + x, by omega⟩

/-- A lane of a pair, by its head and its place in the head. -/
theorem lane_split (x : Fin 128) : x = lane ⟨x / 64, by omega⟩ ⟨x % 64, by omega⟩ := Fin.ext (by simp [lane]; omega)

/-- What point `t` stores at row `r`, lane `l` of its block is the reference at row `512 t + r`. -/
theorem point (c : Dev nD) (t : Fin cfg0.N) (hQ : ∀ i, IsReal (Qa m c i)) (hK : ∀ i, IsReal (Ka m c i)) (ht : t.val < 32)
    (r : Fin 512) (l : Fin 256) :
    k0_pay5 (F := Ideal) k0_pay1 (k0_pay2 (View.ld (iblk m c 0 t) r0_0) (View.ld (iblk m c 1 t) r0_1) (View.ld (iblk m c 2 t) r0_1))
      (k0_pay3 (View.ld (iblk m c 0 t) r0_2)) (k0_pay4 (View.ld (iblk m c 0 t) r0_2)) (View.ld (iblk m c 1 t) r0_3)
      (View.ld (iblk m c 2 t) r0_3) (iblk m c 3 t) (ix2 r l)
      = Cert.ReferenceIdeal.Mem.ref (Qa m c) (Ka m c) (Va m c) (Ga m c) (ix2 ⟨512 * t.val + r, by omega⟩ l) := by
  have hrow : (⟨4096 * (t.val / 8) + (512 * (t.val % 8) + r), by omega⟩ : Fin 16384) = ⟨512 * t.val + r, by omega⟩ :=
    Fin.ext (by simp; omega)
  rw [stored_apply _ _ _ _ _ _ _ r l (fun x => Cert.ReferenceIdeal.Mem.context (Cert.ReferenceIdeal.Mem.divided (Cert.ReferenceIdeal.Mem.expo
      (Cert.ReferenceIdeal.Mem.logits (Qa m c) (Ka m c)))) (Va m c) (ix3 ⟨t.val / 8, by omega⟩ ⟨512 * (t.val % 8) + r, by omega⟩ x)),
    Cert.ReferenceIdeal.Mem.ref, Cert.ReferenceIdeal.Mem.normed_apply, g_block m c t ht]
  · have e1 : (⟨(512 * t.val + r) / 4096, by omega⟩ : Fin 4) = ⟨t.val / 8, by omega⟩ := Fin.ext (by simp; omega)
    have e2 : (⟨(512 * t.val + r) % 4096, by omega⟩ : Fin 4096) = ⟨512 * (t.val % 8) + r, by omega⟩ := Fin.ext (by simp; omega)
    rw [e1, e2]
  · intro x
    rw [lane_split x]
    refine (pair_context (Qa m c) (Ka m c) (Va m c) hQ hK _ _ _ ⟨t.val / 8, by omega⟩ ⟨512 * (t.val % 8) + r, by omega⟩ 0 r ?_ ?_ ?_ _ _).trans ?_
    · intro x
      rw [q_low m c t ht, hrow]
      exact congrArg (fun y => Qa m c (ix2 _ y)) (Fin.ext (by simp))
    · intro j x
      rw [k_low m c t ht]
      exact congrArg (fun y => Ka m c (ix2 _ y)) (Fin.ext (by simp))
    · intro j x
      rw [v_low m c t ht]
      exact congrArg (fun y => Va m c (ix2 _ y)) (Fin.ext (by simp))
    · exact congrArg (fun y => Cert.ReferenceIdeal.Mem.context _ _ (ix3 _ _ y)) (Fin.ext (by simp))
  · intro x
    rw [lane_split x]
    refine (pair_context (Qa m c) (Ka m c) (Va m c) hQ hK _ _ _ ⟨t.val / 8, by omega⟩ ⟨512 * (t.val % 8) + r, by omega⟩ 1 r ?_ ?_ ?_ _ _).trans ?_
    · intro x
      rw [q_high m c t ht, hrow]
      exact congrArg (fun y => Qa m c (ix2 _ y)) (Fin.ext (by simp))
    · intro j x
      rw [k_high m c t ht]
      exact congrArg (fun y => Ka m c (ix2 _ y)) (Fin.ext (by simp))
    · intro j x
      rw [v_high m c t ht]
      exact congrArg (fun y => Va m c (ix2 _ y)) (Fin.ext (by simp))
    · exact congrArg (fun y => Cert.ReferenceIdeal.Mem.context _ _ (ix3 _ _ y)) (Fin.ext (by simp))

/-- The result array after the run. -/
theorem final (c : Dev nD) (hQ : ∀ i, IsReal (Qa m c i)) (hK : ∀ i, IsReal (Ka m c i)) :
    (dats m 0 c).arrAt 4 (cfgs 0).N = Cert.ReferenceIdeal.Mem.ref (Qa m c) (Ka m c) (Va m c) (Ga m c) := by
  refine (dats m 0 c).arrAt_eq_of_covers 4 _ (by decide +kernel) fun t _ y => ?_
  blk_simp
  rw [after0_4]
  frame_out
  have ht := (idx t).2.2.2.2.2
  idx_vars y
  refine (point m c t hQ hK ht y0 y1).trans (congrArg _ ?_)
  blk_ext [idx t]

end Cert.KernelIdeal.Mem

end
-- ==== Proof.PreFacts.lean ====
/- Hand-written, untrusted: what the precondition says of the arguments. -/
module

public import proofs.«01_k».proof.Pre_finite
public import proofs.«01_k».proof.Proof.Soft
public import Idealize.ShloMosaic.Lib.Pointwise

@[expose] public section

set_option maxRecDepth 16384

noncomputable section

open Idealize.ShloMosaic
open Cert.Soft

namespace Cert.Pre_finite.Hand

open Cert.Pre_finite

instance facts : Cert.Pre_finite.Facts where
  concatenates_S16384x256_S1024x256_S17408x256_d0 := by decide
  bcast_S_S17408x256 := by decide

/-- The precondition at one entry of the stacked queries and keys. -/
theorem real_of_cmp (x : FVec Ideal S17408x256 .f32) (i : S17408x256.Idx)
    (h : cmpf .olt (Host.absf x) (broadcastInDim S17408x256 ![] Facts.bcast_S_S17408x256 (constant (F := Ideal) S_ .f32 0x7F800000#32)) i = 1#1) :
    IsReal (x i) := by
  have e : Ideal.cmp .olt (max (x i) (-(x i))) (Ideal.ofBits .f32 0x7F800000#32) = 1#1 := h
  rw [pos_inf] at e
  refine isReal_of_abs_lt ?_
  by_contra hn
  simp [Ideal.cmp, hn] at e

/-- The queries are real. -/
theorem queries (q : FVec Ideal S16384x256 .f32) (k v : FVec Ideal S1024x256 .f32) (g : FVec Ideal S1024 .f32)
    (h : fn (F := Ideal) q k v g = fun _ => 1#1) (i : S16384x256.Idx) : IsReal (q i) := by
  idx_vars i
  have e := real_of_cmp _ (ix2 ⟨i0, by omega⟩ i1) (congrFun h (ix2 ⟨i0, by omega⟩ i1))
  pointwise at e
  exact e

/-- The keys are real. -/
theorem keys (q : FVec Ideal S16384x256 .f32) (k v : FVec Ideal S1024x256 .f32) (g : FVec Ideal S1024 .f32)
    (h : fn (F := Ideal) q k v g = fun _ => 1#1) (i : S1024x256.Idx) : IsReal (k i) := by
  idx_vars i
  have e := real_of_cmp _ (ix2 ⟨16384 + i0, by omega⟩ i1) (congrFun h (ix2 ⟨16384 + i0, by omega⟩ i1))
  pointwise at e
  simpa using e

end Cert.Pre_finite.Hand

end
-- ==== Proof.Norm.lean ====
/- Hand-written, untrusted: the mathematics shared by the projections: a row normalised by its root mean square, its
   product with a weight column, and a head of 64 lanes normalised by its own root mean square. -/
module

public import Idealize.ShloMosaic.Lib.Pipeline.ValueKit

@[expose] public section

set_option maxRecDepth 16384

noncomputable section

open Idealize.ShloMosaic Idealize.ShloMosaic.TcCoe
open scoped BigOperators

namespace Cert.Norm

/-- The constants as printed: the epsilon, the two widths, and the reciprocal the kernel multiplies by. -/
abbrev eps : EReal := Ideal.ofBits FTy.f32 897988541#32
abbrev width : EReal := Ideal.ofBits FTy.f32 1149239296#32
abbrev lanes : EReal := Ideal.ofBits FTy.f32 1115684864#32
abbrev perLane : EReal := Ideal.ofBits FTy.f32 1015021568#32

/-- The kernel's literal is 1/64. -/
theorem perLane_eq : perLane = ((1 / 64 : ℝ) : EReal) := by
  simp [perLane, Ideal.ofBits, Ideal.ieee]
  rw [← EReal.coe_mul]
  norm_num

/-- The reference's literal is 64. -/
theorem lanes_eq : lanes = ((64 : ℝ) : EReal) := by
  simp [lanes, Ideal.ofBits, Ideal.ieee]
  rw [← EReal.coe_mul]
  norm_num

/-- A row of the layer's width over its root mean square, times the gain. -/
def rmsRow (x g : Fin 1024 → EReal) (i : Fin 1024) : EReal :=
  x i * Ideal.rsqrt (Ideal.div (∑ j, x j * x j) width + eps) * g i

/-- The product of a row with a weight column. -/
def mix (h w : Fin 1024 → EReal) : EReal := ∑ i, h i * w i

/-- One lane of a head over the head's root mean square, times its gain. -/
def headNorm (y : Fin 64 → EReal) (g : EReal) (d : Fin 64) : EReal :=
  y d * Ideal.rsqrt (Ideal.div (∑ j, y j * y j) lanes + eps) * g

/-- A sum over all lanes against the indicator of lane `l`'s head is the sum over that head's lanes. -/
theorem sum_head {N : ℕ} (hN : 64 ∣ N) (f one : Fin N → EReal) (l : Fin N)
    (h : ∀ x : Fin N, one x = if x.val / 64 = l.val / 64 then 1 else 0) :
    ∑ x, f x * one x = ∑ d : Fin 64, f ⟨l.val / 64 * 64 + d, by have := l.isLt; have := d.isLt; omega⟩ := by
  have e : ∀ x, f x * one x = if x.val / 64 = l.val / 64 then f x else 0 := fun x => by
    rw [h]; split <;> simp
  rw [Finset.sum_congr rfl fun x _ => e x, ← Finset.sum_filter]
  symm
  refine Finset.sum_bij (fun d _ => ⟨l.val / 64 * 64 + d, by have := l.isLt; have := d.isLt; omega⟩) ?_ ?_ ?_ ?_
  · intro d _
    have := d.isLt
    simp only [Finset.mem_filter, Finset.mem_univ, true_and]
    omega
  · intro d _ d' _ hd
    have := congrArg Fin.val hd
    simp only at this
    exact Fin.ext (by omega)
  · intro x hx
    simp only [Finset.mem_filter, Finset.mem_univ, true_and] at hx
    exact ⟨⟨x.val % 64, Nat.mod_lt _ (by norm_num)⟩, Finset.mem_univ _, Fin.ext (by simp only; omega)⟩
  · intro d _; rfl

/-- The kernel's normalisation of a lane, its head's mean taken by a product with the block-diagonal ones, is `headNorm`. -/
theorem lane_norm {N : ℕ} (hN : 64 ∣ N) (y one : Fin N → EReal) (g : EReal) (l : Fin N)
    (h : ∀ x : Fin N, one x = if x.val / 64 = l.val / 64 then 1 else 0) :
    y l * Ideal.rsqrt ((∑ x, y x * y x * one x) * perLane + eps) * g
      = headNorm (fun d => y ⟨l.val / 64 * 64 + d, by have := l.isLt; have := d.isLt; omega⟩) g
          ⟨l.val % 64, Nat.mod_lt _ (by norm_num)⟩ := by
  rw [sum_head hN (fun x => y x * y x) one l h, headNorm, lanes_eq, Ideal.div_coe (by norm_num), perLane_eq]
  have e : l = ⟨l.val / 64 * 64 + l.val % 64, by have := l.isLt; omega⟩ := Fin.ext (by simp only; omega)
  conv_lhs => enter [1, 1]; rw [e]

/-- `lane_norm` with the head's lanes and the gain named. -/
theorem window_norm {N : ℕ} (hN : 64 ∣ N) (y one : Fin N → EReal) (g : EReal) (l : Fin N) (w : Fin 64 → EReal) (g' : EReal)
    (h : ∀ x : Fin N, one x = if x.val / 64 = l.val / 64 then 1 else 0)
    (hw : ∀ d : Fin 64, y ⟨l.val / 64 * 64 + d, by have := l.isLt; have := d.isLt; omega⟩ = w d) (hg : g = g') :
    y l * Ideal.rsqrt ((∑ x, y x * y x * one x) * perLane + eps) * g = headNorm w g' ⟨l.val % 64, Nat.mod_lt _ (by norm_num)⟩ := by
  rw [lane_norm hN y one g l h, hg, funext hw]

end Cert.Norm

end
-- ==== Proof.MemoryRef.lean ====
/- Hand-written, untrusted: the reference projection of the memory tokens, stage by stage, each stage read at an index. -/
module

public import proofs.«01_k».proof.Proof.Gen.MemoryRefIdeal.Run
public import proofs.«01_k».proof.Proof.Norm

@[expose] public section

set_option maxRecDepth 16384

noncomputable section

open Idealize.ShloMosaic Idealize.ShloMosaic.TcCoe Idealize.SL.Sem
open scoped BigOperators

namespace Cert.MemoryRefIdeal.Proj

open Cert.MemoryRefIdeal Cert.MemoryRefIdeal.Gen Cert.Norm

/-- The sum of squares of each row. -/
def sumsq (x : FVec Ideal S4x256x1024 .f32) : FVec Ideal S4x256 .f32 :=
  Host.reduceAdd (mulf x x) (constant S_ .f32 0x00000000#32) reducesTo_S4x256x1024_S4x256_d2 h_S_

/-- A row's sum of squares. -/
theorem sumsq_apply (x : FVec Ideal S4x256x1024 .f32) (b : Fin 4) (t : Fin 256) :
    sumsq x (ix2 b t) = ∑ i : Fin 1024, x (ix3 b t i) * x (ix3 b t i) := by
  pointwise [sumsq]

/-- The reciprocal root mean square of each row. -/
def scale (s : FVec Ideal S4x256 .f32) : FVec Ideal S4x256x1 .f32 :=
  Host.rsqrt (addf (Host.divf (broadcastInDim S4x256x1 ![0, 1] bcast_S4x256_S4x256x1_0_1 s)
      (broadcastInDim S4x256x1 ![] bcast_S_S4x256x1 (constant S_ .f32 0x44800000#32)))
    (broadcastInDim S4x256x1 ![] bcast_S_S4x256x1 (constant S_ .f32 0x358637BD#32)))

/-- A row's inverse root mean square. -/
theorem scale_apply (s : FVec Ideal S4x256 .f32) (b : Fin 4) (t : Fin 256) :
    scale s (ix3 b t 0) = Ideal.rsqrt (Ideal.div (s (ix2 b t)) width + eps) := by
  pointwise [scale]

/-- The rows over their root mean square, times the gain. -/
def rows (x : FVec Ideal S4x256x1024 .f32) (k : FVec Ideal S4x256x1 .f32) (g : FVec Ideal S1024 .f32) : FVec Ideal S4x256x1024 .f32 :=
  mulf (mulf x (broadcastInDim S4x256x1024 ![0, 1, 2] bcast_S4x256x1_S4x256x1024_0_1_2 k))
    (broadcastInDim S4x256x1024 ![0, 1, 2] bcast_S1x1x1024_S4x256x1024_0_1_2 (broadcastInDim S1x1x1024 ![2] bcast_S1024_S1x1x1024_2 g))

/-- A row's entry, by the row's factor and the gain. -/
theorem rows_apply (x : FVec Ideal S4x256x1024 .f32) (k : FVec Ideal S4x256x1 .f32) (g : FVec Ideal S1024 .f32)
    (b : Fin 4) (t : Fin 256) (i : Fin 1024) :
    rows x k g (ix3 b t i) = x (ix3 b t i) * k (ix3 b t 0) * g (ix1 i) := by
  pointwise [rows]

/-- Their product with the weights. -/
def product (h : FVec Ideal S4x256x1024 .f32) (w : FVec Ideal S1024x512 .f32) : FVec Ideal S4x256x512 .f32 :=
  Host.dotGeneral dot_S4x256x1024_S1024x512_S4x256x512_2_0_01_1_n_n none h w

/-- An entry of the product of the rows with the weights. -/
theorem product_apply (h : FVec Ideal S4x256x1024 .f32) (w : FVec Ideal S1024x512 .f32) (b : Fin 4) (t : Fin 256) (l : Fin 512) :
    product h w (ix3 b t l) = ∑ i : Fin 1024, h (ix3 b t i) * w (ix2 i l) := by
  pointwise [product]

/-- The whole projection of the rows. -/
def mixed (x : FVec Ideal S4x256x1024 .f32) (g : FVec Ideal S1024 .f32) (w : FVec Ideal S1024x512 .f32) : FVec Ideal S4x256x512 .f32 :=
  product (rows x (scale (sumsq x)) g) w

/-- An entry of the product of the normalised rows with the weights. -/
theorem mixed_apply (x : FVec Ideal S4x256x1024 .f32) (g : FVec Ideal S1024 .f32) (w : FVec Ideal S1024x512 .f32)
    (b : Fin 4) (t : Fin 256) (l : Fin 512) :
    mixed x g w (ix3 b t l) = mix (rmsRow (fun i => x (ix3 b t i)) (fun i => g (ix1 i))) (fun i => w (ix2 i l)) := by
  rw [mixed, product_apply, mix]
  refine Finset.sum_congr rfl fun i _ => ?_
  rw [rows_apply, scale_apply, sumsq_apply, rmsRow]

/-! Heads of 64 lanes, 4 of them. -/

/-- The sums of squares of four heads. -/
def headSum4 (y : FVec Ideal S4x256x4x64 .f32) : FVec Ideal S4x256x4 .f32 :=
  Host.reduceAdd (mulf y y) (constant S_ .f32 0x00000000#32) reducesTo_S4x256x4x64_S4x256x4_d3 h_S_

/-- A head's sum of squares. -/
theorem headSum4_apply (y : FVec Ideal S4x256x4x64 .f32) (b : Fin 4) (t : Fin 256) (h : Fin 4) :
    headSum4 y (ix3 b t h) = ∑ j : Fin 64, y (ix4 b t h j) * y (ix4 b t h j) := by
  pointwise [headSum4]

/-- The inverse root mean squares of four heads. -/
def headScale4 (s : FVec Ideal S4x256x4 .f32) : FVec Ideal S4x256x4x1 .f32 :=
  Host.rsqrt (addf (Host.divf (broadcastInDim S4x256x4x1 ![0, 1, 2] bcast_S4x256x4_S4x256x4x1_0_1_2 s)
      (broadcastInDim S4x256x4x1 ![] bcast_S_S4x256x4x1 (constant S_ .f32 0x42800000#32)))
    (broadcastInDim S4x256x4x1 ![] bcast_S_S4x256x4x1 (constant S_ .f32 0x358637BD#32)))

/-- A head's inverse root mean square. -/
theorem headScale4_apply (s : FVec Ideal S4x256x4 .f32) (b : Fin 4) (t : Fin 256) (h : Fin 4) :
    headScale4 s (ix4 b t h 0) = Ideal.rsqrt (Ideal.div (s (ix3 b t h)) lanes + eps) := by
  pointwise [headScale4]

/-- The entries of four heads, by each head's factor and the gain. -/
def headRows4 (y : FVec Ideal S4x256x4x64 .f32) (k : FVec Ideal S4x256x4x1 .f32) (g : FVec Ideal S64 .f32) : FVec Ideal S4x256x4x64 .f32 :=
  mulf (mulf y (broadcastInDim S4x256x4x64 ![0, 1, 2, 3] bcast_S4x256x4x1_S4x256x4x64_0_1_2_3 k))
    (broadcastInDim S4x256x4x64 ![0, 1, 2, 3] bcast_S1x1x1x64_S4x256x4x64_0_1_2_3 (broadcastInDim S1x1x1x64 ![3] bcast_S64_S1x1x1x64_3 g))

/-- A head's entry, by the head's factor and the gain. -/
theorem headRows4_apply (y : FVec Ideal S4x256x4x64 .f32) (k : FVec Ideal S4x256x4x1 .f32) (g : FVec Ideal S64 .f32)
    (b : Fin 4) (t : Fin 256) (h : Fin 4) (d : Fin 64) :
    headRows4 y k g (ix4 b t h d) = y (ix4 b t h d) * k (ix4 b t h 0) * g (ix1 d) := by
  pointwise [headRows4]

/-- Every head over its root mean square, times the gain. -/
def heads4 (y : FVec Ideal S4x256x4x64 .f32) (g : FVec Ideal S64 .f32) : FVec Ideal S4x256x4x64 .f32 :=
  headRows4 y (headScale4 (headSum4 y)) g

/-- The normalised heads at an entry are the head's RMS norm. -/
theorem heads4_apply (y : FVec Ideal S4x256x4x64 .f32) (g : FVec Ideal S64 .f32) (b : Fin 4) (t : Fin 256) (h : Fin 4) (d : Fin 64) :
    heads4 y g (ix4 b t h d) = headNorm (fun j => y (ix4 b t h j)) (g (ix1 d)) d := by
  rw [heads4, headRows4_apply, headScale4_apply, headSum4_apply, headNorm]

/-- Columns 0 to 255 of the projection, as heads. -/
def part0 (y : FVec Ideal S4x256x512 .f32) : FVec Ideal S4x256x4x64 .f32 :=
  shapeCast S4x256x4x64 (extractStridedSlice S4x256x256 ![0, 0, 0] y slices_S4x256x512_S4x256x256_0_0_0) shapeCasts_S4x256x256_S4x256x4x64

/-- The lanes from 0 on, cut into heads. -/
theorem part0_apply (y : FVec Ideal S4x256x512 .f32) (b : Fin 4) (t : Fin 256) (h : Fin 4) (d : Fin 64) :
    part0 y (ix4 b t h d) = y (ix3 b t ⟨h.val * 64 + d, by omega⟩) := by
  pointwise [part0]

/-- Columns 256 to 511 of the projection, as heads. -/
def part256 (y : FVec Ideal S4x256x512 .f32) : FVec Ideal S4x256x4x64 .f32 :=
  shapeCast S4x256x4x64 (extractStridedSlice S4x256x256 ![0, 0, 256] y slices_S4x256x512_S4x256x256_0_0_256) shapeCasts_S4x256x256_S4x256x4x64

/-- The lanes from 256 on, cut into heads. -/
theorem part256_apply (y : FVec Ideal S4x256x512 .f32) (b : Fin 4) (t : Fin 256) (h : Fin 4) (d : Fin 64) :
    part256 y (ix4 b t h d) = y (ix3 b t ⟨256 + (h.val * 64 + d), by omega⟩) := by
  pointwise [part256]

/-- The projection of device `c`'s arguments. -/
abbrev ref (m : (ℓ : Loc nD τ sig) → Buf (Elt Ideal) ℓ) (c : Dev nD) : FVec Ideal S4x256x512 .f32 :=
  mixed (m ((c.tc : Thread nD τ).loc main_arg0)) (m ((c.tc : Thread nD τ).loc main_arg1)) (m ((c.tc : Thread nD τ).loc main_arg2))

/-- The reference's run: keys and values at their stages, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = heads4 (part0 (ref m c)) (m ((c.tc : Thread nD τ).loc main_arg3))
      ∧ r.2.mem ((c.tc : Thread nD τ).loc main_v30) = part256 (ref m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.MemoryRefIdeal.Value.run m ρ

end Cert.MemoryRefIdeal.Proj

end
-- ==== Proof.MemoryPoint.lean ====
/- Hand-written, untrusted: the memory projection call, block by block. -/
module

public import proofs.«01_k».proof.Proof.Gen.MemoryIdeal.Frame
public import proofs.«01_k».proof.Proof.MemoryRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MemoryIdeal.Proj

open Cert.MemoryIdeal Cert.MemoryIdeal.Gen Cert.Norm

variable (m : (ℓ : Loc nD τ sig) → Buf (Elt Ideal) ℓ)

/-! ## The block-diagonal matrix of ones -/

/-- The quotient by 64, rounded down, as the host computes it. -/
def fdiv (v : IVec S512x512 32) : IVec S512x512 32 :=
  select (andi (cmpi .ne (signi v) (broadcastInDim S512x512 ![] bcast_S_S512x512 (signi (constantI S_ 32 64#32))))
      (cmpi .ne (Host.remsi v (broadcastInDim S512x512 ![] bcast_S_S512x512 (constantI S_ 32 64#32)))
        (broadcastInDim S512x512 ![] bcast_S_S512x512 (constantI S_ 32 0#32))))
    (subi (Host.divsi v (broadcastInDim S512x512 ![] bcast_S_S512x512 (constantI S_ 32 64#32)))
      (broadcastInDim S512x512 ![] bcast_S_S512x512 (constantI S_ 32 1#32)))
    (Host.divsi v (broadcastInDim S512x512 ![] bcast_S_S512x512 (constantI S_ 32 64#32)))

/-- The same for one word. -/
def wdiv (v : BitVec 32) : BitVec 32 :=
  Scalar.select
      (IntOp.andi
        (IntOp.cmpi CmpIPredicate.ne (if v = 0 then 0 else if v.msb = true then -1 else 1 : BitVec 32)
          (if 64#32 = 0 then 0 else if (64#32).msb = true then -1 else 1 : BitVec 32))
        (IntOp.cmpi CmpIPredicate.ne (IntOp.remsi ArithUnit.host v 64#32) 0#32))
      (IntOp.subi (IntOp.divsi ArithUnit.host v 64#32) 1#32)
      (IntOp.divsi ArithUnit.host v 64#32)

/-- The host's division of an array by 64, at an entry. -/
theorem fdiv_apply (v : IVec S512x512 32) (x l : Fin 512) : fdiv v (ix2 x l) = wdiv (v (ix2 x l)) := by
  pointwise [fdiv]
  rfl

/-- The host's division of a small number by 64 is the division of naturals. -/
theorem wdiv_eq : ∀ x : Fin 512, wdiv (BitVec.ofNat 32 x.val) = BitVec.ofNat 32 (x.val / 64) := by decide +kernel

/-- The block-diagonal matrix of ones that the host builds: one where row and column lie in the same head. -/
def ones : FVec Ideal S512x512 .bf16 :=
  uitofp .bf16 (cmpi .eq (fdiv (iotaInDim S512x512 32 0)) (fdiv (iotaInDim S512x512 32 1)))

/-- An entry of a matrix built by comparing a function of the row number with the same function of the column number. -/
theorem ones_raw (f : IVec S512x512 32 → IVec S512x512 32) (x l : Fin 512) :
    uitofp (F := Ideal) .bf16 (cmpi .eq (f (iotaInDim S512x512 32 0)) (f (iotaInDim S512x512 32 1))) (ix2 x l)
      = FloatOps.uitofp (F := Ideal) FTy.bf16
          (IntOp.cmpi CmpIPredicate.eq (f (iotaInDim S512x512 32 0) (ix2 x l)) (f (iotaInDim S512x512 32 1) (ix2 x l))) := by
  pointwise

/-- The row numbers. -/
theorem iota_row (x l : Fin 512) : iotaInDim S512x512 32 0 (ix2 x l) = BitVec.ofNat 32 x.val := by pointwise

/-- The column numbers. -/
theorem iota_col (x l : Fin 512) : iotaInDim S512x512 32 1 (ix2 x l) = BitVec.ofNat 32 l.val := by pointwise

/-- Two head numbers are equal as words just when they are equal. -/
theorem word_eq : ∀ x l : Fin 8, IntOp.cmpi CmpIPredicate.eq (BitVec.ofNat 32 x.val) (BitVec.ofNat 32 l.val) = if x.val = l.val then 1#1 else 0#1 := by
  decide +kernel

/-- It is one where row and column lie in the same head, else zero. -/
theorem ones_apply (x l : Fin 512) : ones (ix2 x l) = if x.val / 64 = l.val / 64 then 1 else 0 := by
  rw [ones, ones_raw, fdiv_apply, fdiv_apply, iota_row, iota_col, wdiv_eq, wdiv_eq,
    word_eq ⟨x.val / 64, by omega⟩ ⟨l.val / 64, by omega⟩]
  split <;> simp [FloatOps.uitofp]

/-! ## What one grid point stores -/

/-- The rows a point computes first are its rows' RMS norm. -/
theorem rows_pay (v0 : Vec Ideal S512x1024 .f32) (v12 : Vec Ideal S1x1024 .f32) (r : Fin 512) (x : Fin 1024) :
    k0_pay2 (F := Ideal) v0 v12 (ix2 r x) = rmsRow (fun i => v0 (ix2 r i)) (fun i => v12 (ix2 0 i)) x := by
  pointwise [k0_pay2]
  rfl

/-- The values' stage is the product of the rows with the weights. -/
theorem value_pay (h : FVec Ideal S512x1024 .bf16) (w : Vec Ideal S1024x256 .bf16) (r : Fin 512) (l : Fin 256) :
    k0_pay1 (F := Ideal) h w (ix2 r l) = ∑ x : Fin 1024, h (ix2 r x) * w (ix2 x l) := by
  pointwise [k0_pay1]

/-- The keys' stage is the head norm of the product of the rows with the weights. -/
theorem key_pay (v0 : Vec Ideal S512x1024 .f32) (v12 : Vec Ideal S1x1024 .f32) (w : Vec Ideal S1024x256 .bf16)
    (o : Vec Ideal S256x256 .bf16) (g : Vec Ideal S1x256 .f32) (r : Fin 512) (l : Fin 256) (y : Fin 256 → EReal)
    (hy : ∀ l, ∑ x : Fin 1024, k0_pay2 (F := Ideal) v0 v12 (ix2 r x) * w (ix2 x l) = y l) :
    k0_pay3 (F := Ideal) v0 v12 w o g (ix2 r l)
      = y l * Ideal.rsqrt ((∑ x, y x * y x * o (ix2 x l)) * perLane + eps) * g (ix2 0 l) := by
  unfold k0_pay3
  generalize k0_pay2 (F := Ideal) v0 v12 = h at hy ⊢
  pointwise
  simp only [hy]

/-! ## The arrays the region finds -/

/-- The gains of all lanes, as the host joins them. -/
def gains (a : FVec Ideal S64 .f32) : FVec Ideal S1x512 .f32 :=
  shapeCast S1x512 (concatenate S512 0
    [⟨S256, shapeCast S256 (broadcastInDim S4x64 ![0, 1] bcast_S1x64_S4x64_0_1 (shapeCast S1x64 a shapeCasts_S64_S1x64)) shapeCasts_S4x64_S256⟩,
      ⟨S256, broadcastInDim S256 ![] bcast_S_S256 (constant S_ .f32 0x3F800000#32)⟩]
    concatenates_S256_S256_S512_d0) shapeCasts_S512_S1x512

/-- The keys' lanes of the gain row repeat the head gain. -/
theorem gains_key (a : FVec Ideal S64 .f32) (l : Fin 256) : gains a (ix2 0 ⟨l, by omega⟩) = a (ix1 ⟨l.val % 64, Nat.mod_lt _ (by norm_num)⟩) := by
  pointwise [gains]

abbrev Xa (c : Dev nD) : FVec Ideal S4x256x1024 .f32 := m ((c : Thread nD τ).loc main_arg0)
abbrev Na (c : Dev nD) : FVec Ideal S1024 .f32 := m ((c : Thread nD τ).loc main_arg1)
abbrev Wa (c : Dev nD) : FVec Ideal S1024x512 .f32 := m ((c : Thread nD τ).loc main_arg2)
abbrev Ga (c : Dev nD) : FVec Ideal S64 .f32 := m ((c : Thread nD τ).loc main_arg3)

/-- The region finds the rows of all sequences, one below the other. -/
theorem V_rows (c : Dev nD) : V m c main_v12 = shapeCast S1024x1024 (Xa m c) shapeCasts_S4x256x1024_S1024x1024 := by
  unfold V V0
  simp only [hostOps0, hostOps0_1, hostOps0_2, hostOps0_3, hostOps0_4, List.flatten_cons, List.flatten_nil, List.append_nil,
    List.cons_append, List.nil_append]
  after_results <;> rfl

/-- The region finds the norm's gain as a row. -/
theorem V_norm (c : Dev nD) : V m c main_v13 = shapeCast S1x1024 (Na m c) shapeCasts_S1024_S1x1024 := by
  unfold V V0
  simp only [hostOps0, hostOps0_1, hostOps0_2, hostOps0_3, hostOps0_4, List.flatten_cons, List.flatten_nil, List.append_nil,
    List.cons_append, List.nil_append]
  after_results <;> rfl

/-- The region finds the weights in bf16. -/
theorem V_weights (c : Dev nD) : V m c main_v0 = (truncf .bf16 (Wa m c) bitsLt_bf16_f32 : FVec Ideal S1024x512 .bf16) := by
  unfold V V0
  simp only [hostOps0, hostOps0_1, hostOps0_2, hostOps0_3, hostOps0_4, List.flatten_cons, List.flatten_nil, List.append_nil,
    List.cons_append, List.nil_append]
  after_results <;> rfl

/-- The region finds the head gains as one row. -/
theorem V_gains (c : Dev nD) : V m c main_v14 = gains (Ga m c) := by
  unfold V V0
  simp only [hostOps0, hostOps0_1, hostOps0_2, hostOps0_3, hostOps0_4, List.flatten_cons, List.flatten_nil, List.append_nil,
    List.cons_append, List.nil_append]
  after_results <;> rfl

/-- The region finds the block-diagonal matrix of ones. -/
theorem V_ones (c : Dev nD) : V m c main_v6 = ones := by
  unfold V V0
  simp only [hostOps0, hostOps0_1, hostOps0_2, hostOps0_3, hostOps0_4, List.flatten_cons, List.flatten_nil, List.append_nil,
    List.cons_append, List.nil_append]
  after_results <;> rfl

/-- Which block each window holds at point `t`. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ t.val < 2 :=
  (by decide +kernel : ∀ t : Fin grid0.N, _)

/-- The rows of all sequences, one below the other. -/
def unflat (x : FVec Ideal S4x256x1024 .f32) : FVec Ideal S1024x1024 .f32 := shapeCast S1024x1024 x shapeCasts_S4x256x1024_S1024x1024

/-- A row of the joined rows is a row of its sequence. -/
theorem unflat_apply (x : FVec Ideal S4x256x1024 .f32) (r : Fin 1024) (i : Fin 1024) :
    unflat x (ix2 r i) = x (ix3 ⟨r.val / 256, by omega⟩ ⟨r.val % 256, by omega⟩ i) := by
  pointwise [unflat]

/-- The gain as a row. -/
def unrow (g : FVec Ideal S1024 .f32) : FVec Ideal S1x1024 .f32 := shapeCast S1x1024 g shapeCasts_S1024_S1x1024

/-- A gain as a row, at an entry. -/
theorem unrow_apply (g : FVec Ideal S1024 .f32) (i : Fin 1024) : unrow g (ix2 0 i) = g (ix1 i) := by
  pointwise [unrow]

/-- The row block of point `t` holds the point's rows. -/
theorem x_block (c : Dev nD) (t : Fin cfg0.N) (ht : t.val < 2) (r : Fin 512) (x : Fin 1024) :
    iblk m c 0 t (ix2 r x) = Xa m c (ix3 ⟨(512 * t.val + r) / 256, by omega⟩ ⟨(512 * t.val + r) % 256, by omega⟩ x) := by
  have e := V_rows m c
  refine Eq.trans ?_ (unflat_apply (Xa m c) ⟨512 * t.val + r, by omega⟩ x)
  unfold unflat at *
  generalize shapeCast S1024x1024 (Xa m c) shapeCasts_S4x256x1024_S1024x1024 = g at e ⊢
  blk_point [iblk, e, idx t]

/-- The norm's gain is whole at every point. -/
theorem n_block (c : Dev nD) (t : Fin cfg0.N) (ht : t.val < 2) (x : Fin 1024) :
    iblk m c 1 t (ix2 0 x) = Na m c (ix1 x) := by
  have e := V_norm m c
  refine Eq.trans ?_ (unrow_apply (Na m c) x)
  unfold unrow at *
  generalize shapeCast S1x1024 (Na m c) shapeCasts_S1024_S1x1024 = g at e ⊢
  blk_point [iblk, e, idx t]

/-- The weights are whole at every point. -/
theorem w_block (c : Dev nD) (t : Fin cfg0.N) (ht : t.val < 2) (x : Fin 1024) (l : Fin 512) :
    iblk m c 2 t (ix2 x l) = Wa m c (ix2 x l) := by
  have e := V_weights m c
  blk_point [iblk, e, idx t]

/-- The gain block of every point is the whole row of head gains. -/
theorem g_block (c : Dev nD) (t : Fin cfg0.N) (ht : t.val < 2) (l : Fin 512) :
    iblk m c 3 t (ix2 0 l) = gains (Ga m c) (ix2 0 l) := by
  have e := V_gains m c
  generalize gains (Ga m c) = g at e ⊢
  blk_point [iblk, e, idx t]

/-- The matrix of ones is whole at every point. -/
theorem o_block (c : Dev nD) (t : Fin cfg0.N) (ht : t.val < 2) (x l : Fin 512) :
    iblk m c 4 t (ix2 x l) = ones (ix2 x l) := by
  have e := V_ones m c
  generalize ones = g at e ⊢
  blk_point [iblk, e, idx t]

/-- Point `t`'s normalised rows. -/
theorem rows_block (c : Dev nD) (t : Fin cfg0.N) (ht : t.val < 2) (r : Fin 512) (x : Fin 1024) :
    k0_pay2 (F := Ideal) (iblk m c 0 t) (iblk m c 1 t) (ix2 r x)
      = rmsRow (fun i => Xa m c (ix3 ⟨(512 * t.val + r) / 256, by omega⟩ ⟨(512 * t.val + r) % 256, by omega⟩ i)) (fun i => Na m c (ix1 i)) x := by
  rw [rows_pay]
  congr 1
  · exact funext fun i => x_block m c t ht r i
  · exact funext fun i => n_block m c t ht i

open Cert.MemoryRefIdeal.Proj (mixed mixed_apply heads4 heads4_apply part0 part0_apply part256 part256_apply)

/-- The reference's projection of the argument arrays. -/
abbrev ref (c : Dev nD) : FVec Ideal Cert.MemoryRefIdeal.S4x256x512 .f32 := mixed (Xa m c) (Na m c) (Wa m c)

/-- Point `t`'s product with a weight column that column `l` of the weights is. -/
theorem column (c : Dev nD) (t : Fin cfg0.N) (ht : t.val < 2) (r : Fin 512) (w : Fin 1024 → EReal) (l : Fin 512)
    (hw : ∀ x, w x = Wa m c (ix2 x l)) :
    ∑ x : Fin 1024, k0_pay2 (F := Ideal) (iblk m c 0 t) (iblk m c 1 t) (ix2 r x) * w x
      = ref m c (ix3 ⟨(512 * t.val + r) / 256, by omega⟩ ⟨(512 * t.val + r) % 256, by omega⟩ l) := by
  rw [ref, mixed_apply, mix]
  exact Finset.sum_congr rfl fun x _ => by rw [rows_block m c t ht, hw]

/-- The columns of the weights that make the keys. -/
theorem w_low (c : Dev nD) (t : Fin cfg0.N) (ht : t.val < 2) (x : Fin 1024) (l : Fin 256) :
    View.ld (iblk m c 2 t) r0_2 (ix2 x l) = Wa m c (ix2 x ⟨l, by omega⟩) := by
  pointwise
  exact w_block m c t ht x ⟨l, by omega⟩

/-- The columns of the weights that make the values. -/
theorem w_high (c : Dev nD) (t : Fin cfg0.N) (ht : t.val < 2) (x : Fin 1024) (l : Fin 256) :
    View.ld (iblk m c 2 t) r0_6 (ix2 x l) = Wa m c (ix2 x ⟨256 + l, by omega⟩) := by
  pointwise
  exact w_block m c t ht x ⟨256 + l, by omega⟩

/-- The part of the matrix of ones for four heads: one where row and column lie in the same head. -/
theorem o_low (c : Dev nD) (t : Fin cfg0.N) (ht : t.val < 2) (x l : Fin 256) :
    View.ld (iblk m c 4 t) r0_3 (ix2 x l) = if x.val / 64 = l.val / 64 then (1 : EReal) else 0 := by
  pointwise
  exact (o_block m c t ht ⟨x, by omega⟩ ⟨l, by omega⟩).trans (ones_apply _ _)

/-- The keys' part of the gain row repeats the head gain. -/
theorem g_low (c : Dev nD) (t : Fin cfg0.N) (ht : t.val < 2) (l : Fin 256) :
    View.ld (iblk m c 3 t) r0_4 (ix2 0 l) = Ga m c (ix1 ⟨l.val % 64, Nat.mod_lt _ (by norm_num)⟩) := by
  pointwise
  exact (g_block m c t ht ⟨l, by omega⟩).trans (gains_key _ _)

/-- The keys and values, one row per token. -/
def keys (c : Dev nD) : FVec Ideal S4x256x4x64 .f32 := heads4 (part0 (ref m c)) (Ga m c)
/-- The memory values as the reference has them. -/
def values (c : Dev nD) : FVec Ideal S4x256x4x64 .f32 := part256 (ref m c)

/-- An array by sequence, row, head and lane as one of rows and columns. -/
def flat (a : FVec Ideal S4x256x4x64 .f32) : FVec Ideal S1024x256 .f32 := fun i =>
  let r : Fin 1024 := i 0
  let l : Fin 256 := i 1
  a (ix4 ⟨r.val / 256, by omega⟩ ⟨r.val % 256, by omega⟩ ⟨l.val / 64, by omega⟩ ⟨l.val % 64, by omega⟩)

/-- What point `t` stores of the keys is the reference's. -/
theorem key_point (c : Dev nD) (t : Fin cfg0.N) (ht : t.val < 2) (r : Fin 512) (l : Fin 256) :
    k0_pay3 (F := Ideal) (iblk m c 0 t) (iblk m c 1 t) (View.ld (iblk m c 2 t) r0_2) (View.ld (iblk m c 4 t) r0_3)
        (View.ld (iblk m c 3 t) r0_4) (ix2 r l)
      = flat (keys m c) (ix2 ⟨512 * t.val + r, by omega⟩ l) := by
  rw [key_pay _ _ _ _ _ r l _ fun l => column m c t ht r _ ⟨l, by omega⟩ fun x => w_low m c t ht x l]
  refine (window_norm (by norm_num) (fun y : Fin 256 => ref m c (ix3 ⟨(512 * t.val + r) / 256, by omega⟩ ⟨(512 * t.val + r) % 256, by omega⟩ ⟨y.val, by omega⟩)) _ _ l _ _ (fun x => o_low m c t ht x l) (fun d => ?_) (g_low m c t ht l)).trans
    (heads4_apply (part0 (ref m c)) (Ga m c) ⟨(512 * t.val + r) / 256, by omega⟩ ⟨(512 * t.val + r) % 256, by omega⟩
      ⟨l.val / 64, by omega⟩ ⟨l.val % 64, by omega⟩).symm
  rw [part0_apply]

/-- What point `t` stores of the values is the reference's. -/
theorem value_point (c : Dev nD) (t : Fin cfg0.N) (ht : t.val < 2) (r : Fin 512) (l : Fin 256) :
    k0_pay1 (F := Ideal) (k0_pay2 (iblk m c 0 t) (iblk m c 1 t)) (View.ld (iblk m c 2 t) r0_6) (ix2 r l)
      = flat (values m c) (ix2 ⟨512 * t.val + r, by omega⟩ l) := by
  rw [value_pay, column m c t ht r _ ⟨256 + l, by omega⟩ fun x => w_high m c t ht x l]
  refine Eq.trans ?_ (part256_apply (ref m c) ⟨(512 * t.val + r) / 256, by omega⟩ ⟨(512 * t.val + r) % 256, by omega⟩
      ⟨l.val / 64, by omega⟩ ⟨l.val % 64, by omega⟩).symm
  exact congrArg (fun y => ref m c (ix3 _ _ y)) (Fin.ext (by simp; omega))

/-- After the region the key array holds the reference's keys. -/
theorem final5 (c : Dev nD) : (dats m 0 c).arrAt 5 (cfgs 0).N = flat (keys m c) := by
  refine (dats m 0 c).arrAt_eq_of_covers 5 _ (by decide +kernel) fun t _ y => ?_
  blk_simp
  rw [after0_5]
  frame_out
  have ht := (idx t).2.2.2.2.2.2.2
  idx_vars y
  refine (key_point m c t ht y0 y1).trans (congrArg _ ?_)
  blk_ext [idx t]

/-- After the region the value array holds the reference's values. -/
theorem final6 (c : Dev nD) : (dats m 0 c).arrAt 6 (cfgs 0).N = flat (values m c) := by
  refine (dats m 0 c).arrAt_eq_of_covers 6 _ (by decide +kernel) fun t _ y => ?_
  blk_simp
  rw [after0_6]
  frame_out
  have ht := (idx t).2.2.2.2.2.2.2
  idx_vars y
  refine (value_point m c t ht y0 y1).trans (congrArg _ ?_)
  blk_ext [idx t]

/-- Laying rows out flat and cutting them again gives the array back. -/
theorem unflat_flat (a : FVec Ideal S4x256x4x64 .f32) : shapeCast S4x256x4x64 (flat a) shapeCasts_S1024x256_S4x256x4x64 = a := by
  funext i
  idx_vars i
  pointwise
  unfold flat
  refine congrArg a (funext fun k => ?_)
  fin_cases k <;> apply Fin.ext <;> simp <;> omega

/-- The first result is the reference's memory keys. -/
theorem tail16 (c : Dev nD) : Pipeline.afterTail₀ cfgs (dats m) 0 (V0 m) [hostOps1] c main_v16 = keys m c := by
  unfold Pipeline.afterTail₀
  simp only [hostOps1, List.flatten_cons, List.flatten_nil, List.append_nil]
  after_results
  refine (congrArg (fun A : FVec Ideal S1024x256 .f32 => shapeCast S4x256x4x64 A shapeCasts_S1024x256_S4x256x4x64)
    ((Pipeline.withArrays_arr spec0 (by decide) c (V0 m c) (fun w => (dats m 0 c).arrAt w (cfgs 0).N) 5).trans (final5 m c))).trans (unflat_flat _)

/-- The second result is the reference's memory values. -/
theorem tail17 (c : Dev nD) : Pipeline.afterTail₀ cfgs (dats m) 0 (V0 m) [hostOps1] c main_v17 = values m c := by
  unfold Pipeline.afterTail₀
  simp only [hostOps1, List.flatten_cons, List.flatten_nil, List.append_nil]
  after_results
  refine (congrArg (fun A : FVec Ideal S1024x256 .f32 => shapeCast S4x256x4x64 A shapeCasts_S1024x256_S4x256x4x64)
    ((Pipeline.withArrays_arr spec0 (by decide) c (V0 m c) (fun w => (dats m 0 c).arrAt w (cfgs 0).N) 6).trans (final6 m c))).trans (unflat_flat _)

/-- The run: the keys and values end in the results, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v16) = keys m c
      ∧ r.2.mem ((c.tc : Thread nD τ).loc main_v17) = values m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    have rest := fun (b : Ref sig .tc) hb => (h c).2 b hb
    ⟨(rest main_v16 (Pipeline.mem_restRefs_of _ (by decide) (by decide))).trans (tail16 m c),
      (rest main_v17 (Pipeline.mem_restRefs_of _ (by decide) (by decide))).trans (tail17 m c),
      (rest main_arg0 (Pipeline.mem_restRefs_of _ (by decide) (by decide))).trans (W_main_arg0 m (dats m) c),
      (rest main_arg1 (Pipeline.mem_restRefs_of _ (by decide) (by decide))).trans (W_main_arg1 m (dats m) c),
      (rest main_arg2 (Pipeline.mem_restRefs_of _ (by decide) (by decide))).trans (W_main_arg2 m (dats m) c),
      (rest main_arg3 (Pipeline.mem_restRefs_of _ (by decide) (by decide))).trans (W_main_arg3 m (dats m) c)⟩) (run_main m ρ)

end Cert.MemoryIdeal.Proj

end
-- ==== Proof.SampleRef.lean ====
/- Hand-written, untrusted: the reference projection of the sample rows, stage by stage, each stage read at an index. -/
module

public import proofs.«01_k».proof.Proof.Gen.SampleRefIdeal.Run
public import proofs.«01_k».proof.Proof.Norm

@[expose] public section

set_option maxRecDepth 16384

noncomputable section

open Idealize.ShloMosaic Idealize.ShloMosaic.TcCoe Idealize.SL.Sem
open scoped BigOperators

namespace Cert.SampleRefIdeal.Proj

open Cert.SampleRefIdeal Cert.SampleRefIdeal.Gen Cert.Norm

/-- The sum of squares of each row. -/
def sumsq (x : FVec Ideal S32x8x1024 .f32) : FVec Ideal S32x8 .f32 :=
  Host.reduceAdd (mulf x x) (constant S_ .f32 0x00000000#32) reducesTo_S32x8x1024_S32x8_d2 h_S_

/-- A row's sum of squares. -/
theorem sumsq_apply (x : FVec Ideal S32x8x1024 .f32) (b : Fin 32) (t : Fin 8) :
    sumsq x (ix2 b t) = ∑ i : Fin 1024, x (ix3 b t i) * x (ix3 b t i) := by
  pointwise [sumsq]

/-- The reciprocal root mean square of each row. -/
def scale (s : FVec Ideal S32x8 .f32) : FVec Ideal S32x8x1 .f32 :=
  Host.rsqrt (addf (Host.divf (broadcastInDim S32x8x1 ![0, 1] bcast_S32x8_S32x8x1_0_1 s)
      (broadcastInDim S32x8x1 ![] bcast_S_S32x8x1 (constant S_ .f32 0x44800000#32)))
    (broadcastInDim S32x8x1 ![] bcast_S_S32x8x1 (constant S_ .f32 0x358637BD#32)))

/-- A row's inverse root mean square. -/
theorem scale_apply (s : FVec Ideal S32x8 .f32) (b : Fin 32) (t : Fin 8) :
    scale s (ix3 b t 0) = Ideal.rsqrt (Ideal.div (s (ix2 b t)) width + eps) := by
  pointwise [scale]

/-- The rows over their root mean square, times the gain. -/
def rows (x : FVec Ideal S32x8x1024 .f32) (k : FVec Ideal S32x8x1 .f32) (g : FVec Ideal S1024 .f32) : FVec Ideal S32x8x1024 .f32 :=
  mulf (mulf x (broadcastInDim S32x8x1024 ![0, 1, 2] bcast_S32x8x1_S32x8x1024_0_1_2 k))
    (broadcastInDim S32x8x1024 ![0, 1, 2] bcast_S1x1x1024_S32x8x1024_0_1_2 (broadcastInDim S1x1x1024 ![2] bcast_S1024_S1x1x1024_2 g))

/-- A row's entry, by the row's factor and the gain. -/
theorem rows_apply (x : FVec Ideal S32x8x1024 .f32) (k : FVec Ideal S32x8x1 .f32) (g : FVec Ideal S1024 .f32)
    (b : Fin 32) (t : Fin 8) (i : Fin 1024) :
    rows x k g (ix3 b t i) = x (ix3 b t i) * k (ix3 b t 0) * g (ix1 i) := by
  pointwise [rows]

/-- Their product with the weights. -/
def product (h : FVec Ideal S32x8x1024 .f32) (w : FVec Ideal S1024x2048 .f32) : FVec Ideal S32x8x2048 .f32 :=
  Host.dotGeneral dot_S32x8x1024_S1024x2048_S32x8x2048_2_0_01_1_n_n none h w

/-- An entry of the product of the rows with the weights. -/
theorem product_apply (h : FVec Ideal S32x8x1024 .f32) (w : FVec Ideal S1024x2048 .f32) (b : Fin 32) (t : Fin 8) (l : Fin 2048) :
    product h w (ix3 b t l) = ∑ i : Fin 1024, h (ix3 b t i) * w (ix2 i l) := by
  pointwise [product]

/-- The whole projection of the rows. -/
def mixed (x : FVec Ideal S32x8x1024 .f32) (g : FVec Ideal S1024 .f32) (w : FVec Ideal S1024x2048 .f32) : FVec Ideal S32x8x2048 .f32 :=
  product (rows x (scale (sumsq x)) g) w

/-- An entry of the product of the normalised rows with the weights. -/
theorem mixed_apply (x : FVec Ideal S32x8x1024 .f32) (g : FVec Ideal S1024 .f32) (w : FVec Ideal S1024x2048 .f32)
    (b : Fin 32) (t : Fin 8) (l : Fin 2048) :
    mixed x g w (ix3 b t l) = mix (rmsRow (fun i => x (ix3 b t i)) (fun i => g (ix1 i))) (fun i => w (ix2 i l)) := by
  rw [mixed, product_apply, mix]
  refine Finset.sum_congr rfl fun i _ => ?_
  rw [rows_apply, scale_apply, sumsq_apply, rmsRow]

/-! Heads of 64 lanes, 8 of them. -/

/-- The sums of squares of eight heads. -/
def headSum8 (y : FVec Ideal S32x8x8x64 .f32) : FVec Ideal S32x8x8 .f32 :=
  Host.reduceAdd (mulf y y) (constant S_ .f32 0x00000000#32) reducesTo_S32x8x8x64_S32x8x8_d3 h_S_

/-- A head's sum of squares. -/
theorem headSum8_apply (y : FVec Ideal S32x8x8x64 .f32) (b : Fin 32) (t : Fin 8) (h : Fin 8) :
    headSum8 y (ix3 b t h) = ∑ j : Fin 64, y (ix4 b t h j) * y (ix4 b t h j) := by
  pointwise [headSum8]

/-- The inverse root mean squares of eight heads. -/
def headScale8 (s : FVec Ideal S32x8x8 .f32) : FVec Ideal S32x8x8x1 .f32 :=
  Host.rsqrt (addf (Host.divf (broadcastInDim S32x8x8x1 ![0, 1, 2] bcast_S32x8x8_S32x8x8x1_0_1_2 s)
      (broadcastInDim S32x8x8x1 ![] bcast_S_S32x8x8x1 (constant S_ .f32 0x42800000#32)))
    (broadcastInDim S32x8x8x1 ![] bcast_S_S32x8x8x1 (constant S_ .f32 0x358637BD#32)))

/-- A head's inverse root mean square. -/
theorem headScale8_apply (s : FVec Ideal S32x8x8 .f32) (b : Fin 32) (t : Fin 8) (h : Fin 8) :
    headScale8 s (ix4 b t h 0) = Ideal.rsqrt (Ideal.div (s (ix3 b t h)) lanes + eps) := by
  pointwise [headScale8]

/-- The entries of eight heads, by each head's factor and the gain. -/
def headRows8 (y : FVec Ideal S32x8x8x64 .f32) (k : FVec Ideal S32x8x8x1 .f32) (g : FVec Ideal S64 .f32) : FVec Ideal S32x8x8x64 .f32 :=
  mulf (mulf y (broadcastInDim S32x8x8x64 ![0, 1, 2, 3] bcast_S32x8x8x1_S32x8x8x64_0_1_2_3 k))
    (broadcastInDim S32x8x8x64 ![0, 1, 2, 3] bcast_S1x1x1x64_S32x8x8x64_0_1_2_3 (broadcastInDim S1x1x1x64 ![3] bcast_S64_S1x1x1x64_3 g))

/-- A head's entry, by the head's factor and the gain. -/
theorem headRows8_apply (y : FVec Ideal S32x8x8x64 .f32) (k : FVec Ideal S32x8x8x1 .f32) (g : FVec Ideal S64 .f32)
    (b : Fin 32) (t : Fin 8) (h : Fin 8) (d : Fin 64) :
    headRows8 y k g (ix4 b t h d) = y (ix4 b t h d) * k (ix4 b t h 0) * g (ix1 d) := by
  pointwise [headRows8]

/-- Every head over its root mean square, times the gain. -/
def heads8 (y : FVec Ideal S32x8x8x64 .f32) (g : FVec Ideal S64 .f32) : FVec Ideal S32x8x8x64 .f32 :=
  headRows8 y (headScale8 (headSum8 y)) g

/-- The normalised heads at an entry are the head's RMS norm. -/
theorem heads8_apply (y : FVec Ideal S32x8x8x64 .f32) (g : FVec Ideal S64 .f32) (b : Fin 32) (t : Fin 8) (h : Fin 8) (d : Fin 64) :
    heads8 y g (ix4 b t h d) = headNorm (fun j => y (ix4 b t h j)) (g (ix1 d)) d := by
  rw [heads8, headRows8_apply, headScale8_apply, headSum8_apply, headNorm]

/-! Heads of 64 lanes, 4 of them. -/

/-- The sums of squares of four heads. -/
def headSum4 (y : FVec Ideal S32x8x4x64 .f32) : FVec Ideal S32x8x4 .f32 :=
  Host.reduceAdd (mulf y y) (constant S_ .f32 0x00000000#32) reducesTo_S32x8x4x64_S32x8x4_d3 h_S_

/-- A head's sum of squares. -/
theorem headSum4_apply (y : FVec Ideal S32x8x4x64 .f32) (b : Fin 32) (t : Fin 8) (h : Fin 4) :
    headSum4 y (ix3 b t h) = ∑ j : Fin 64, y (ix4 b t h j) * y (ix4 b t h j) := by
  pointwise [headSum4]

/-- The inverse root mean squares of four heads. -/
def headScale4 (s : FVec Ideal S32x8x4 .f32) : FVec Ideal S32x8x4x1 .f32 :=
  Host.rsqrt (addf (Host.divf (broadcastInDim S32x8x4x1 ![0, 1, 2] bcast_S32x8x4_S32x8x4x1_0_1_2 s)
      (broadcastInDim S32x8x4x1 ![] bcast_S_S32x8x4x1 (constant S_ .f32 0x42800000#32)))
    (broadcastInDim S32x8x4x1 ![] bcast_S_S32x8x4x1 (constant S_ .f32 0x358637BD#32)))

/-- A head's inverse root mean square. -/
theorem headScale4_apply (s : FVec Ideal S32x8x4 .f32) (b : Fin 32) (t : Fin 8) (h : Fin 4) :
    headScale4 s (ix4 b t h 0) = Ideal.rsqrt (Ideal.div (s (ix3 b t h)) lanes + eps) := by
  pointwise [headScale4]

/-- The entries of four heads, by each head's factor and the gain. -/
def headRows4 (y : FVec Ideal S32x8x4x64 .f32) (k : FVec Ideal S32x8x4x1 .f32) (g : FVec Ideal S64 .f32) : FVec Ideal S32x8x4x64 .f32 :=
  mulf (mulf y (broadcastInDim S32x8x4x64 ![0, 1, 2, 3] bcast_S32x8x4x1_S32x8x4x64_0_1_2_3 k))
    (broadcastInDim S32x8x4x64 ![0, 1, 2, 3] bcast_S1x1x1x64_S32x8x4x64_0_1_2_3 (broadcastInDim S1x1x1x64 ![3] bcast_S64_S1x1x1x64_3 g))

/-- A head's entry, by the head's factor and the gain. -/
theorem headRows4_apply (y : FVec Ideal S32x8x4x64 .f32) (k : FVec Ideal S32x8x4x1 .f32) (g : FVec Ideal S64 .f32)
    (b : Fin 32) (t : Fin 8) (h : Fin 4) (d : Fin 64) :
    headRows4 y k g (ix4 b t h d) = y (ix4 b t h d) * k (ix4 b t h 0) * g (ix1 d) := by
  pointwise [headRows4]

/-- Every head over its root mean square, times the gain. -/
def heads4 (y : FVec Ideal S32x8x4x64 .f32) (g : FVec Ideal S64 .f32) : FVec Ideal S32x8x4x64 .f32 :=
  headRows4 y (headScale4 (headSum4 y)) g

/-- The normalised heads at an entry are the head's RMS norm. -/
theorem heads4_apply (y : FVec Ideal S32x8x4x64 .f32) (g : FVec Ideal S64 .f32) (b : Fin 32) (t : Fin 8) (h : Fin 4) (d : Fin 64) :
    heads4 y g (ix4 b t h d) = headNorm (fun j => y (ix4 b t h j)) (g (ix1 d)) d := by
  rw [heads4, headRows4_apply, headScale4_apply, headSum4_apply, headNorm]

/-- Columns 256 to 767 of the projection, as heads. -/
def part256 (y : FVec Ideal S32x8x2048 .f32) : FVec Ideal S32x8x8x64 .f32 :=
  shapeCast S32x8x8x64 (extractStridedSlice S32x8x512 ![0, 0, 256] y slices_S32x8x2048_S32x8x512_0_0_256) shapeCasts_S32x8x512_S32x8x8x64

/-- The lanes from 256 on, cut into heads. -/
theorem part256_apply (y : FVec Ideal S32x8x2048 .f32) (b : Fin 32) (t : Fin 8) (h : Fin 8) (d : Fin 64) :
    part256 y (ix4 b t h d) = y (ix3 b t ⟨256 + (h.val * 64 + d), by omega⟩) := by
  pointwise [part256]

/-- Columns 768 to 1279 of the projection, as heads. -/
def part768 (y : FVec Ideal S32x8x2048 .f32) : FVec Ideal S32x8x8x64 .f32 :=
  shapeCast S32x8x8x64 (extractStridedSlice S32x8x512 ![0, 0, 768] y slices_S32x8x2048_S32x8x512_0_0_768) shapeCasts_S32x8x512_S32x8x8x64

/-- The lanes from 768 on, cut into heads. -/
theorem part768_apply (y : FVec Ideal S32x8x2048 .f32) (b : Fin 32) (t : Fin 8) (h : Fin 8) (d : Fin 64) :
    part768 y (ix4 b t h d) = y (ix3 b t ⟨768 + (h.val * 64 + d), by omega⟩) := by
  pointwise [part768]

/-- Columns 1280 to 1791 of the projection, as heads. -/
def part1280 (y : FVec Ideal S32x8x2048 .f32) : FVec Ideal S32x8x8x64 .f32 :=
  shapeCast S32x8x8x64 (extractStridedSlice S32x8x512 ![0, 0, 1280] y slices_S32x8x2048_S32x8x512_0_0_1280) shapeCasts_S32x8x512_S32x8x8x64

/-- The lanes from 1280 on, cut into heads. -/
theorem part1280_apply (y : FVec Ideal S32x8x2048 .f32) (b : Fin 32) (t : Fin 8) (h : Fin 8) (d : Fin 64) :
    part1280 y (ix4 b t h d) = y (ix3 b t ⟨1280 + (h.val * 64 + d), by omega⟩) := by
  pointwise [part1280]

/-- Columns 1792 to 2047 of the projection, as heads. -/
def part1792 (y : FVec Ideal S32x8x2048 .f32) : FVec Ideal S32x8x4x64 .f32 :=
  shapeCast S32x8x4x64 (extractStridedSlice S32x8x256 ![0, 0, 1792] y slices_S32x8x2048_S32x8x256_0_0_1792) shapeCasts_S32x8x256_S32x8x4x64

/-- The lanes from 1792 on, cut into heads. -/
theorem part1792_apply (y : FVec Ideal S32x8x2048 .f32) (b : Fin 32) (t : Fin 8) (h : Fin 4) (d : Fin 64) :
    part1792 y (ix4 b t h d) = y (ix3 b t ⟨1792 + (h.val * 64 + d), by omega⟩) := by
  pointwise [part1792]

/-- Columns 0 to 255 of the projection. -/
def partU (y : FVec Ideal S32x8x2048 .f32) : FVec Ideal S32x8x256 .f32 :=
  extractStridedSlice S32x8x256 ![0, 0, 0] y slices_S32x8x2048_S32x8x256_0_0_0

/-- The first 256 lanes. -/
theorem partU_apply (y : FVec Ideal S32x8x2048 .f32) (b : Fin 32) (t : Fin 8) (l : Fin 256) :
    partU y (ix3 b t l) = y (ix3 b t ⟨l, by omega⟩) := by
  pointwise [partU]

/-- Eight heads side by side, one row per token. -/
def flat8 (a : FVec Ideal S32x8x8x64 .f32) : FVec Ideal S256x512 .f32 := shapeCast S256x512 a shapeCasts_S32x8x8x64_S256x512

/-- Eight heads laid out flat, at an entry. -/
theorem flat8_apply (a : FVec Ideal S32x8x8x64 .f32) (r : Fin 256) (l : Fin 512) :
    flat8 a (ix2 r l) = a (ix4 ⟨r.val / 8, by omega⟩ ⟨r.val % 8, by omega⟩ ⟨l.val / 64, by omega⟩ ⟨l.val % 64, by omega⟩) := by
  pointwise [flat8]

/-- Four heads side by side, one row per token. -/
def flat4 (a : FVec Ideal S32x8x4x64 .f32) : FVec Ideal S256x256 .f32 := shapeCast S256x256 a shapeCasts_S32x8x4x64_S256x256

/-- Four heads laid out flat, at an entry. -/
theorem flat4_apply (a : FVec Ideal S32x8x4x64 .f32) (r : Fin 256) (l : Fin 256) :
    flat4 a (ix2 r l) = a (ix4 ⟨r.val / 8, by omega⟩ ⟨r.val % 8, by omega⟩ ⟨l.val / 64, by omega⟩ ⟨l.val % 64, by omega⟩) := by
  pointwise [flat4]

/-- The projection of device `c`'s arguments. -/
abbrev ref (m : (ℓ : Loc nD τ sig) → Buf (Elt Ideal) ℓ) (c : Dev nD) : FVec Ideal S32x8x2048 .f32 :=
  mixed (m ((c.tc : Thread nD τ).loc main_arg0)) (m ((c.tc : Thread nD τ).loc main_arg2)) (m ((c.tc : Thread nD τ).loc main_arg3))

/-- The last fifteen of the rows before and the new rows. -/
def recent (old : FVec Ideal S32x15x256 .f32) (a : FVec Ideal S32x8x256 .f32) : FVec Ideal S32x15x256 .f32 :=
  extractStridedSlice S32x15x256 ![0, 8, 0] (concatenate S32x23x256 1 [⟨S32x15x256, old⟩, ⟨S32x8x256, a⟩] concatenates_S32x15x256_S32x8x256_S32x23x256_d1)
    slices_S32x23x256_S32x15x256_0_8_0

/-- The reference's run: every result at its stages, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = heads8 (part768 (ref m c)) (m ((c.tc : Thread nD τ).loc main_arg5))
      ∧ r.2.mem ((c.tc : Thread nD τ).loc main_v47) = part1280 (ref m c)
      ∧ r.2.mem ((c.tc : Thread nD τ).loc main_v63) = recent (m ((c.tc : Thread nD τ).loc main_arg1)) (partU (ref m c))
      ∧ r.2.mem ((c.tc : Thread nD τ).loc main_v64) = flat8 (heads8 (part256 (ref m c)) (m ((c.tc : Thread nD τ).loc main_arg4)))
      ∧ r.2.mem ((c.tc : Thread nD τ).loc main_v65) = flat4 (heads4 (part1792 (ref m c)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.SampleRefIdeal.Value.run m ρ

end Cert.SampleRefIdeal.Proj

end
-- ==== Proof.SamplePoint.lean ====
/- Hand-written, untrusted: the projection of the sample rows, what a grid point stores and what the run leaves. -/
module

public import proofs.«01_k».proof.Proof.Gen.SampleIdeal.Frame
public import proofs.«01_k».proof.Proof.SampleRef
public import proofs.«01_k».proof.Proof.MemoryPoint

@[expose] public section

set_option maxRecDepth 16384

noncomputable section

open Idealize.ShloMosaic Idealize.ShloMosaic.TcCoe Idealize.SL.Sem
open scoped BigOperators

namespace Cert.SampleIdeal.Proj

open Cert.SampleIdeal Cert.SampleIdeal.Gen Cert.Norm
open Cert.MemoryIdeal.Proj (ones ones_apply)
open Cert.SampleRefIdeal.Proj (mixed mixed_apply heads8 heads8_apply heads4 heads4_apply partU partU_apply part256 part256_apply
  part768 part768_apply part1280 part1280_apply part1792 part1792_apply flat8 flat8_apply flat4 flat4_apply recent)

variable (m : (ℓ : Loc nD τ sig) → Buf (Elt Ideal) ℓ)

/-! ## What one grid point stores -/

/-- The rows a point computes first are its rows' RMS norm. -/
theorem rows_pay (v0 : Vec Ideal S256x1024 .f32) (v12 : Vec Ideal S1x1024 .f32) (r : Fin 256) (x : Fin 1024) :
    k0_pay2 (F := Ideal) v0 v12 (ix2 r x) = rmsRow (fun i => v0 (ix2 r i)) (fun i => v12 (ix2 0 i)) x := by
  pointwise [k0_pay2]
  rfl

/-- The first columns, not normalised. -/
theorem u_pay (v0 : Vec Ideal S256x1024 .f32) (v12 : Vec Ideal S1x1024 .f32) (w : Vec Ideal S1024x256 .bf16) (r : Fin 256) (l : Fin 256) :
    k0_pay3 (F := Ideal) v0 v12 w (ix2 r l) = ∑ x : Fin 1024, k0_pay2 (F := Ideal) v0 v12 (ix2 r x) * w (ix2 x l) := by
  unfold k0_pay3
  generalize k0_pay2 (F := Ideal) v0 v12 = h
  pointwise

/-- The queries. -/
theorem q_pay (v0 : Vec Ideal S256x1024 .f32) (v12 : Vec Ideal S1x1024 .f32) (w : Vec Ideal S1024x512 .bf16)
    (o : Vec Ideal S512x512 .bf16) (g : Vec Ideal S1x512 .f32) (r : Fin 256) (l : Fin 512) (y : Fin 512 → EReal)
    (hy : ∀ l, ∑ x : Fin 1024, k0_pay2 (F := Ideal) v0 v12 (ix2 r x) * w (ix2 x l) = y l) :
    k0_pay5 (F := Ideal) (k0_pay4 v0 v12 w o) g (ix2 r l)
      = y l * Ideal.rsqrt ((∑ x, y x * y x * o (ix2 x l)) * perLane + eps) * g (ix2 0 l) := by
  unfold k0_pay5 k0_pay4
  generalize k0_pay2 (F := Ideal) v0 v12 = h at hy ⊢
  pointwise
  simp only [hy]

/-- The keys. -/
theorem k_pay (h : FVec Ideal S256x1024 .bf16) (w : Vec Ideal S1024x512 .bf16)
    (o : Vec Ideal S512x512 .bf16) (g : Vec Ideal S1x512 .f32) (r : Fin 256) (l : Fin 512) (y : Fin 512 → EReal)
    (hy : ∀ l, ∑ x : Fin 1024, h (ix2 r x) * w (ix2 x l) = y l) :
    k0_pay6 (F := Ideal) h w o g (ix2 r l)
      = y l * Ideal.rsqrt ((∑ x, y x * y x * o (ix2 x l)) * perLane + eps) * g (ix2 0 l) := by
  unfold k0_pay6
  pointwise
  simp only [hy]

/-- The values. -/
theorem v_pay (h : FVec Ideal S256x1024 .bf16) (w : Vec Ideal S1024x512 .bf16) (r : Fin 256) (l : Fin 512) :
    k0_pay7 (F := Ideal) h w (ix2 r l) = ∑ x : Fin 1024, h (ix2 r x) * w (ix2 x l) := by
  pointwise [k0_pay7]

/-- The memory queries. -/
theorem m_pay (h : FVec Ideal S256x1024 .bf16) (w : Vec Ideal S1024x256 .bf16)
    (o : Vec Ideal S256x256 .bf16) (g : Vec Ideal S1x256 .f32) (r : Fin 256) (l : Fin 256) (y : Fin 256 → EReal)
    (hy : ∀ l, ∑ x : Fin 1024, h (ix2 r x) * w (ix2 x l) = y l) :
    k0_pay1 (F := Ideal) (k0_pay8 h w) (k0_pay9 h w) o g (ix2 r l)
      = y l * Ideal.rsqrt ((∑ x, y x * y x * o (ix2 x l)) * perLane + eps) * g (ix2 0 l) := by
  unfold k0_pay1 k0_pay9 k0_pay8
  pointwise
  simp only [hy]

/-! ## The arrays the region finds -/

/-- The gain of each of eight heads. -/
def tile8 (a : FVec Ideal S64 .f32) : FVec Ideal S512 .f32 :=
  shapeCast S512 (broadcastInDim S8x64 ![0, 1] bcast_S1x64_S8x64_0_1 (shapeCast S1x64 a shapeCasts_S64_S1x64)) shapeCasts_S8x64_S512

/-- The gain repeated for eight heads, at a lane. -/
theorem tile8_apply (a : FVec Ideal S64 .f32) (l : Fin 512) : tile8 a (ix1 l) = a (ix1 ⟨l.val % 64, Nat.mod_lt _ (by norm_num)⟩) := by
  pointwise [tile8]

/-- The gain of each of four heads. -/
def tile4 (a : FVec Ideal S64 .f32) : FVec Ideal S256 .f32 :=
  shapeCast S256 (broadcastInDim S4x64 ![0, 1] bcast_S1x64_S4x64_0_1 (shapeCast S1x64 a shapeCasts_S64_S1x64)) shapeCasts_S4x64_S256

/-- The gain repeated for four heads, at a lane. -/
theorem tile4_apply (a : FVec Ideal S64 .f32) (l : Fin 256) : tile4 a (ix1 l) = a (ix1 ⟨l.val % 64, Nat.mod_lt _ (by norm_num)⟩) := by
  pointwise [tile4]

/-- The gains of all lanes, as the host joins them. -/
def join (p0 : FVec Ideal S256 .f32) (p1 p2 p3 : FVec Ideal S512 .f32) (p4 : FVec Ideal S256 .f32) : FVec Ideal S1x2048 .f32 :=
  shapeCast S1x2048 (concatenate S2048 0 [⟨S256, p0⟩, ⟨S512, p1⟩, ⟨S512, p2⟩, ⟨S512, p3⟩, ⟨S256, p4⟩]
    concatenates_S256_S512_S512_S512_S256_S2048_d0) shapeCasts_S2048_S1x2048

/-- The queries' lanes of the joined gains. -/
theorem join_q (p0 : FVec Ideal S256 .f32) (p1 p2 p3 : FVec Ideal S512 .f32) (p4 : FVec Ideal S256 .f32) (l : Fin 512) :
    join p0 p1 p2 p3 p4 (ix2 0 ⟨256 + l, by omega⟩) = p1 (ix1 l) := by
  pointwise [join]

/-- The keys' lanes of the joined gains. -/
theorem join_k (p0 : FVec Ideal S256 .f32) (p1 p2 p3 : FVec Ideal S512 .f32) (p4 : FVec Ideal S256 .f32) (l : Fin 512) :
    join p0 p1 p2 p3 p4 (ix2 0 ⟨768 + l, by omega⟩) = p2 (ix1 l) := by
  pointwise [join]
  rw [dif_neg (by omega), dif_neg (by omega), dif_pos (by omega)]
  exact congrArg (fun y => p2 (ix1 y)) (Fin.ext (by simp; omega))

/-- The memory queries' lanes of the joined gains. -/
theorem join_m (p0 : FVec Ideal S256 .f32) (p1 p2 p3 : FVec Ideal S512 .f32) (p4 : FVec Ideal S256 .f32) (l : Fin 256) :
    join p0 p1 p2 p3 p4 (ix2 0 ⟨1792 + l, by omega⟩) = p4 (ix1 l) := by
  pointwise [join]
  rw [dif_neg (by omega), dif_neg (by omega), dif_neg (by omega), dif_neg (by omega)]
  exact congrArg (fun y => p4 (ix1 y)) (Fin.ext (by simp; omega))

/-- The row of head gains that the host joins: ones, the query gain, the key gain, ones, the memory query gain. -/
def gains (q k a : FVec Ideal S64 .f32) : FVec Ideal S1x2048 .f32 :=
  join (broadcastInDim S256 ![] bcast_S_S256 (constant S_ .f32 0x3F800000#32)) (tile8 q) (tile8 k)
    (broadcastInDim S512 ![] bcast_S_S512 (constant S_ .f32 0x3F800000#32)) (tile4 a)

abbrev Xa (c : Dev nD) : FVec Ideal S32x8x1024 .f32 := m ((c : Thread nD τ).loc main_arg0)
abbrev Na (c : Dev nD) : FVec Ideal S1024 .f32 := m ((c : Thread nD τ).loc main_arg2)
abbrev Wa (c : Dev nD) : FVec Ideal S1024x2048 .f32 := m ((c : Thread nD τ).loc main_arg3)
abbrev Qa (c : Dev nD) : FVec Ideal S64 .f32 := m ((c : Thread nD τ).loc main_arg4)
abbrev Ka (c : Dev nD) : FVec Ideal S64 .f32 := m ((c : Thread nD τ).loc main_arg5)
abbrev Ma (c : Dev nD) : FVec Ideal S64 .f32 := m ((c : Thread nD τ).loc main_arg6)

/-- The rows of all sequences, one below the other. -/
def unflat (x : FVec Ideal S32x8x1024 .f32) : FVec Ideal S256x1024 .f32 := shapeCast S256x1024 x shapeCasts_S32x8x1024_S256x1024

/-- A row of the joined rows is a row of its sequence. -/
theorem unflat_apply (x : FVec Ideal S32x8x1024 .f32) (r : Fin 256) (i : Fin 1024) :
    unflat x (ix2 r i) = x (ix3 ⟨r.val / 8, by omega⟩ ⟨r.val % 8, by omega⟩ i) := by
  pointwise [unflat]

/-- The gain as a row. -/
def unrow (g : FVec Ideal S1024 .f32) : FVec Ideal S1x1024 .f32 := shapeCast S1x1024 g shapeCasts_S1024_S1x1024

/-- A gain as a row, at an entry. -/
theorem unrow_apply (g : FVec Ideal S1024 .f32) (i : Fin 1024) : unrow g (ix2 0 i) = g (ix1 i) := by
  pointwise [unrow]

/-- The region finds the rows of all sequences, one below the other. -/
theorem V_rows (c : Dev nD) : V m c main_v19 = unflat (Xa m c) := by
  unfold V V0
  simp only [hostOps0, hostOps0_1, hostOps0_2, hostOps0_3, hostOps0_4, List.flatten_cons, List.flatten_nil, List.append_nil,
    List.cons_append, List.nil_append]
  after_results <;> rfl

/-- The region finds the norm's gain as a row. -/
theorem V_norm (c : Dev nD) : V m c main_v20 = unrow (Na m c) := by
  unfold V V0
  simp only [hostOps0, hostOps0_1, hostOps0_2, hostOps0_3, hostOps0_4, List.flatten_cons, List.flatten_nil, List.append_nil,
    List.cons_append, List.nil_append]
  after_results <;> rfl

/-- The region finds the weights in bf16. -/
theorem V_weights (c : Dev nD) : V m c main_v0 = (truncf .bf16 (Wa m c) bitsLt_bf16_f32 : FVec Ideal S1024x2048 .bf16) := by
  unfold V V0
  simp only [hostOps0, hostOps0_1, hostOps0_2, hostOps0_3, hostOps0_4, List.flatten_cons, List.flatten_nil, List.append_nil,
    List.cons_append, List.nil_append]
  after_results <;> rfl

/-- The region finds the head gains as one row. -/
theorem V_gains (c : Dev nD) : V m c main_v21 = gains (Qa m c) (Ka m c) (Ma m c) := by
  unfold V V0
  simp only [hostOps0, hostOps0_1, hostOps0_2, hostOps0_3, hostOps0_4, List.flatten_cons, List.flatten_nil, List.append_nil,
    List.cons_append, List.nil_append]
  after_results <;> rfl

/-- The region finds the block-diagonal matrix of ones. -/
theorem V_ones (c : Dev nD) : V m c main_v6 = ones := by
  unfold V V0
  simp only [hostOps0, hostOps0_1, hostOps0_2, hostOps0_3, hostOps0_4, List.flatten_cons, List.flatten_nil, List.append_nil,
    List.cons_append, List.nil_append]
  after_results <;> rfl

/-- Which block each window holds at point `t`. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ t.val < 1 :=
  (by decide +kernel : ∀ t : Fin grid0.N, _)

/-- The row block of point `t` holds the point's rows. -/
theorem x_block (c : Dev nD) (t : Fin cfg0.N) (ht : t.val < 1) (r : Fin 256) (x : Fin 1024) :
    iblk m c 0 t (ix2 r x) = Xa m c (ix3 ⟨(r.val) / 8, by omega⟩ ⟨(r.val) % 8, by omega⟩ x) := by
  have e := V_rows m c
  refine Eq.trans ?_ (unflat_apply (Xa m c) ⟨r.val, by omega⟩ x)
  generalize unflat (Xa m c) = g at e ⊢
  blk_point [iblk, e, idx t]

/-- The norm's gain is whole at every point. -/
theorem n_block (c : Dev nD) (t : Fin cfg0.N) (ht : t.val < 1) (x : Fin 1024) :
    iblk m c 1 t (ix2 0 x) = Na m c (ix1 x) := by
  have e := V_norm m c
  refine Eq.trans ?_ (unrow_apply (Na m c) x)
  generalize unrow (Na m c) = g at e ⊢
  blk_point [iblk, e, idx t]

/-- The weights are whole at every point. -/
theorem w_block (c : Dev nD) (t : Fin cfg0.N) (ht : t.val < 1) (x : Fin 1024) (l : Fin 2048) :
    iblk m c 2 t (ix2 x l) = Wa m c (ix2 x l) := by
  have e := V_weights m c
  blk_point [iblk, e, idx t]

/-- The gain block of every point is the whole row of head gains. -/
theorem g_block (c : Dev nD) (t : Fin cfg0.N) (ht : t.val < 1) (l : Fin 2048) :
    iblk m c 3 t (ix2 0 l) = gains (Qa m c) (Ka m c) (Ma m c) (ix2 0 l) := by
  have e := V_gains m c
  generalize gains (Qa m c) (Ka m c) (Ma m c) = g at e ⊢
  blk_point [iblk, e, idx t]

/-- The matrix of ones is whole at every point. -/
theorem o_block (c : Dev nD) (t : Fin cfg0.N) (ht : t.val < 1) (x l : Fin 512) :
    iblk m c 4 t (ix2 x l) = ones (ix2 x l) := by
  have e := V_ones m c
  generalize ones = g at e ⊢
  blk_point [iblk, e, idx t]

/-- Point `t`'s normalised rows. -/
theorem rows_block (c : Dev nD) (t : Fin cfg0.N) (ht : t.val < 1) (r : Fin 256) (x : Fin 1024) :
    k0_pay2 (F := Ideal) (iblk m c 0 t) (iblk m c 1 t) (ix2 r x)
      = rmsRow (fun i => Xa m c (ix3 ⟨(r.val) / 8, by omega⟩ ⟨(r.val) % 8, by omega⟩ i)) (fun i => Na m c (ix1 i)) x := by
  rw [rows_pay]
  congr 1
  · exact funext fun i => x_block m c t ht r i
  · exact funext fun i => n_block m c t ht i

/-- The reference's projection of the argument arrays. -/
abbrev ref (c : Dev nD) : FVec Ideal Cert.SampleRefIdeal.S32x8x2048 .f32 := mixed (Xa m c) (Na m c) (Wa m c)

/-- Point `t`'s product with a weight column that column `l` of the weights is. -/
theorem column (c : Dev nD) (t : Fin cfg0.N) (ht : t.val < 1) (r : Fin 256) (w : Fin 1024 → EReal) (l : Fin 2048)
    (hw : ∀ x, w x = Wa m c (ix2 x l)) :
    ∑ x : Fin 1024, k0_pay2 (F := Ideal) (iblk m c 0 t) (iblk m c 1 t) (ix2 r x) * w x
      = ref m c (ix3 ⟨(r.val) / 8, by omega⟩ ⟨(r.val) % 8, by omega⟩ l) := by
  rw [ref, mixed_apply, mix]
  exact Finset.sum_congr rfl fun x _ => by rw [rows_block m c t ht, hw]

/-- The columns of the weights that make the pooling input. -/
theorem w_u (c : Dev nD) (t : Fin cfg0.N) (ht : t.val < 1) (x : Fin 1024) (l : Fin 256) :
    View.ld (iblk m c 2 t) r0_2 (ix2 x l) = Wa m c (ix2 x ⟨l, by omega⟩) := by
  pointwise
  exact w_block m c t ht x ⟨l, by omega⟩

/-- The columns of the weights that make the queries. -/
theorem w_q (c : Dev nD) (t : Fin cfg0.N) (ht : t.val < 1) (x : Fin 1024) (l : Fin 512) :
    View.ld (iblk m c 2 t) r0_4 (ix2 x l) = Wa m c (ix2 x ⟨256 + l, by omega⟩) := by
  pointwise
  exact w_block m c t ht x ⟨256 + l, by omega⟩

/-- The columns of the weights that make the keys. -/
theorem w_k (c : Dev nD) (t : Fin cfg0.N) (ht : t.val < 1) (x : Fin 1024) (l : Fin 512) :
    View.ld (iblk m c 2 t) r0_8 (ix2 x l) = Wa m c (ix2 x ⟨768 + l, by omega⟩) := by
  pointwise
  exact w_block m c t ht x ⟨768 + l, by omega⟩

/-- The columns of the weights that make the values. -/
theorem w_v (c : Dev nD) (t : Fin cfg0.N) (ht : t.val < 1) (x : Fin 1024) (l : Fin 512) :
    View.ld (iblk m c 2 t) r0_10 (ix2 x l) = Wa m c (ix2 x ⟨1280 + l, by omega⟩) := by
  pointwise
  exact w_block m c t ht x ⟨1280 + l, by omega⟩

/-- The columns of the weights that make the memory queries. -/
theorem w_m (c : Dev nD) (t : Fin cfg0.N) (ht : t.val < 1) (x : Fin 1024) (l : Fin 256) :
    View.ld (iblk m c 2 t) r0_11 (ix2 x l) = Wa m c (ix2 x ⟨1792 + l, by omega⟩) := by
  pointwise
  exact w_block m c t ht x ⟨1792 + l, by omega⟩

/-- The matrix of ones: one where row and column lie in the same head. -/
theorem o_whole (c : Dev nD) (t : Fin cfg0.N) (ht : t.val < 1) (x l : Fin 512) :
    iblk m c 4 t (ix2 x l) = if x.val / 64 = l.val / 64 then (1 : EReal) else 0 :=
  (o_block m c t ht x l).trans (ones_apply x l)

/-- The part of the matrix of ones for four heads: one where row and column lie in the same head. -/
theorem o_low (c : Dev nD) (t : Fin cfg0.N) (ht : t.val < 1) (x l : Fin 256) :
    View.ld (iblk m c 4 t) r0_12 (ix2 x l) = if x.val / 64 = l.val / 64 then (1 : EReal) else 0 := by
  pointwise
  exact (o_block m c t ht ⟨x, by omega⟩ ⟨l, by omega⟩).trans (ones_apply _ _)

/-- The queries' part of the gain row repeats the query gain. -/
theorem g_q (c : Dev nD) (t : Fin cfg0.N) (ht : t.val < 1) (l : Fin 512) :
    View.ld (iblk m c 3 t) r0_6 (ix2 0 l) = Qa m c (ix1 ⟨l.val % 64, Nat.mod_lt _ (by norm_num)⟩) := by
  pointwise
  exact (g_block m c t ht ⟨256 + l, by omega⟩).trans ((join_q _ _ _ _ _ l).trans (tile8_apply _ l))

/-- The keys' part of the gain row repeats the key gain. -/
theorem g_k (c : Dev nD) (t : Fin cfg0.N) (ht : t.val < 1) (l : Fin 512) :
    View.ld (iblk m c 3 t) r0_9 (ix2 0 l) = Ka m c (ix1 ⟨l.val % 64, Nat.mod_lt _ (by norm_num)⟩) := by
  pointwise
  exact (g_block m c t ht ⟨768 + l, by omega⟩).trans ((join_k _ _ _ _ _ l).trans (tile8_apply _ l))

/-- The memory queries' part of the gain row repeats their gain. -/
theorem g_m (c : Dev nD) (t : Fin cfg0.N) (ht : t.val < 1) (l : Fin 256) :
    View.ld (iblk m c 3 t) r0_13 (ix2 0 l) = Ma m c (ix1 ⟨l.val % 64, Nat.mod_lt _ (by norm_num)⟩) := by
  pointwise
  exact (g_block m c t ht ⟨1792 + l, by omega⟩).trans ((join_m _ _ _ _ _ l).trans (tile4_apply _ l))

/-! ## The points against the reference -/

/-- What point `t` stores of the pooling input is the reference's. -/
theorem u_point (c : Dev nD) (t : Fin cfg0.N) (ht : t.val < 1) (r : Fin 256) (l : Fin 256) :
    k0_pay3 (F := Ideal) (iblk m c 0 t) (iblk m c 1 t) (View.ld (iblk m c 2 t) r0_2) (ix2 r l)
      = partU (ref m c) (ix3 ⟨(r.val) / 8, by omega⟩ ⟨(r.val) % 8, by omega⟩ l) := by
  rw [u_pay, column m c t ht r _ ⟨l, by omega⟩ fun x => w_u m c t ht x l, partU_apply]

/-- What point `t` stores of the queries is the reference's. -/
theorem q_point (c : Dev nD) (t : Fin cfg0.N) (ht : t.val < 1) (r : Fin 256) (l : Fin 512) :
    k0_pay5 (F := Ideal) (k0_pay4 (iblk m c 0 t) (iblk m c 1 t) (View.ld (iblk m c 2 t) r0_4) (iblk m c 4 t)) (View.ld (iblk m c 3 t) r0_6) (ix2 r l)
      = flat8 (heads8 (part256 (ref m c)) (Qa m c)) (ix2 ⟨r.val, by omega⟩ l) := by
  rw [flat8_apply, q_pay _ _ _ _ _ r l _ fun l => column m c t ht r _ ⟨256 + l, by omega⟩ fun x => w_q m c t ht x l]
  refine (window_norm (by norm_num) (fun y : Fin 512 => ref m c (ix3 ⟨(r.val) / 8, by omega⟩ ⟨(r.val) % 8, by omega⟩ ⟨256 + y.val, by omega⟩)) _ _ l _ _
    (fun x => o_whole m c t ht x l) (fun d => ?_) (g_q m c t ht l)).trans
    (heads8_apply (part256 (ref m c)) (Qa m c) ⟨(r.val) / 8, by omega⟩ ⟨(r.val) % 8, by omega⟩ ⟨l.val / 64, by omega⟩ ⟨l.val % 64, by omega⟩).symm
  rw [part256_apply]

/-- What point `t` stores of the keys is the reference's. -/
theorem k_point (c : Dev nD) (t : Fin cfg0.N) (ht : t.val < 1) (r : Fin 256) (l : Fin 512) :
    k0_pay6 (F := Ideal) (k0_pay2 (iblk m c 0 t) (iblk m c 1 t)) (View.ld (iblk m c 2 t) r0_8) (iblk m c 4 t) (View.ld (iblk m c 3 t) r0_9) (ix2 r l)
      = flat8 (heads8 (part768 (ref m c)) (Ka m c)) (ix2 ⟨r.val, by omega⟩ l) := by
  rw [flat8_apply, k_pay _ _ _ _ r l _ fun l => column m c t ht r _ ⟨768 + l, by omega⟩ fun x => w_k m c t ht x l]
  refine (window_norm (by norm_num) (fun y : Fin 512 => ref m c (ix3 ⟨(r.val) / 8, by omega⟩ ⟨(r.val) % 8, by omega⟩ ⟨768 + y.val, by omega⟩)) _ _ l _ _
    (fun x => o_whole m c t ht x l) (fun d => ?_) (g_k m c t ht l)).trans
    (heads8_apply (part768 (ref m c)) (Ka m c) ⟨(r.val) / 8, by omega⟩ ⟨(r.val) % 8, by omega⟩ ⟨l.val / 64, by omega⟩ ⟨l.val % 64, by omega⟩).symm
  rw [part768_apply]

/-- What point `t` stores of the values is the reference's. -/
theorem v_point (c : Dev nD) (t : Fin cfg0.N) (ht : t.val < 1) (r : Fin 256) (l : Fin 512) :
    k0_pay7 (F := Ideal) (k0_pay2 (iblk m c 0 t) (iblk m c 1 t)) (View.ld (iblk m c 2 t) r0_10) (ix2 r l)
      = flat8 (part1280 (ref m c)) (ix2 ⟨r.val, by omega⟩ l) := by
  rw [flat8_apply, v_pay, column m c t ht r _ ⟨1280 + l, by omega⟩ fun x => w_v m c t ht x l, part1280_apply]
  exact congrArg (fun y => ref m c (ix3 _ _ y)) (Fin.ext (by simp; omega))

/-- What point `t` stores of the memory queries is the reference's. -/
theorem m_point (c : Dev nD) (t : Fin cfg0.N) (ht : t.val < 1) (r : Fin 256) (l : Fin 256) :
    k0_pay1 (F := Ideal) (k0_pay8 (k0_pay2 (iblk m c 0 t) (iblk m c 1 t)) (View.ld (iblk m c 2 t) r0_11)) (k0_pay9 (k0_pay2 (iblk m c 0 t) (iblk m c 1 t)) (View.ld (iblk m c 2 t) r0_11)) (View.ld (iblk m c 4 t) r0_12) (View.ld (iblk m c 3 t) r0_13) (ix2 r l)
      = flat4 (heads4 (part1792 (ref m c)) (Ma m c)) (ix2 ⟨r.val, by omega⟩ l) := by
  rw [flat4_apply, m_pay _ _ _ _ r l _ fun l => column m c t ht r _ ⟨1792 + l, by omega⟩ fun x => w_m m c t ht x l]
  refine (window_norm (by norm_num) (fun y : Fin 256 => ref m c (ix3 ⟨(r.val) / 8, by omega⟩ ⟨(r.val) % 8, by omega⟩ ⟨1792 + y.val, by omega⟩)) _ _ l _ _
    (fun x => o_low m c t ht x l) (fun d => ?_) (g_m m c t ht l)).trans
    (heads4_apply (part1792 (ref m c)) (Ma m c) ⟨(r.val) / 8, by omega⟩ ⟨(r.val) % 8, by omega⟩ ⟨l.val / 64, by omega⟩ ⟨l.val % 64, by omega⟩).symm
  rw [part1792_apply]

end Cert.SampleIdeal.Proj

end
-- ==== Proof.SampleRun.lean ====
/- Hand-written, untrusted: the projection of the sample rows, what the run leaves in every result. -/
module

public import proofs.«01_k».proof.Proof.SamplePoint

@[expose] public section

set_option maxRecDepth 16384

noncomputable section

open Idealize.ShloMosaic Idealize.ShloMosaic.TcCoe Idealize.SL.Sem
open scoped BigOperators

namespace Cert.SampleIdeal.Proj

open Cert.SampleIdeal Cert.SampleIdeal.Gen Cert.Norm
open Cert.MemoryIdeal.Proj (ones ones_apply)
open Cert.SampleRefIdeal.Proj (mixed mixed_apply heads8 heads8_apply heads4 heads4_apply partU partU_apply part256 part256_apply
  part768 part768_apply part1280 part1280_apply part1792 part1792_apply flat8 flat8_apply flat4 flat4_apply recent)

variable (m : (ℓ : Loc nD τ sig) → Buf (Elt Ideal) ℓ)

/-! ## The arrays at the end -/

/-- A load of the whole row block is the block. -/
theorem rows_whole (a : Vec Ideal S256x1024 .f32) : View.ld a r0_0 = a := by
  funext i
  idx_vars i
  pointwise

/-- A load of the whole gain row is the row. -/
theorem gain_whole (a : Vec Ideal S1x1024 .f32) : View.ld a r0_1 = a := by
  funext i
  idx_vars i
  pointwise
  exact congrArg (fun z => a (ix2 z i1)) (Subsingleton.elim _ _)

/-- A load of the whole matrix of ones is the matrix. -/
theorem ones_whole (a : Vec Ideal S512x512 .bf16) : View.ld a r0_5 = a := by
  funext i
  idx_vars i
  pointwise

/-- The normalised rows that the later stages hold are those of the first. -/
theorem rows_held (a : Vec Ideal S256x1024 .f32) (b : Vec Ideal S1x1024 .f32) (w : Vec Ideal S1024x2048 .bf16) (g : Vec Ideal S1x2048 .f32) (o : Vec Ideal S512x512 .bf16) : k0_pay10 (F := Ideal) a b w g o = k0_pay2 (F := Ideal) a b := by
  unfold k0_pay10
  rw [rows_whole, gain_whole]

/-- The rows of `u`, one below the other. -/
def flatU (a : FVec Ideal S32x8x256 .f32) : FVec Ideal S256x256 .f32 := fun i =>
  let r : Fin 256 := i 0
  a (ix3 ⟨r.val / 8, by omega⟩ ⟨r.val % 8, by omega⟩ (i 1))

/-- What point `t` stores of the pooling input, as rows laid out flat. -/
theorem u_flat (c : Dev nD) (t : Fin cfg0.N) (ht : t.val < 1) (r : Fin 256) (l : Fin 256) :
    k0_pay3 (F := Ideal) (iblk m c 0 t) (iblk m c 1 t) (View.ld (iblk m c 2 t) r0_2) (ix2 r l) = flatU (partU (ref m c)) (ix2 ⟨r.val, by omega⟩ l) :=
  u_point m c t ht r l

/-- After the region the pooling input is the reference's. -/
theorem final5 (c : Dev nD) : (dats m 0 c).arrAt 5 (cfgs 0).N = flatU (partU (ref m c)) := by
  refine (dats m 0 c).arrAt_eq_of_covers 5 _ (by decide +kernel) fun t _ y => ?_
  blk_simp
  rw [after0_5]
  frame_out
  have ht := (idx t).2.2.2.2.2.2.2.2.2.2
  idx_vars y
  refine (u_flat m c t ht y0 y1).trans (congrArg _ ?_)
  blk_ext [idx t]

/-- After the region the queries are the reference's. -/
theorem final6 (c : Dev nD) : (dats m 0 c).arrAt 6 (cfgs 0).N = flat8 (heads8 (part256 (ref m c)) (Qa m c)) := by
  refine (dats m 0 c).arrAt_eq_of_covers 6 _ (by decide +kernel) fun t _ y => ?_
  blk_simp
  rw [after0_6]
  frame_out
  have ht := (idx t).2.2.2.2.2.2.2.2.2.2
  idx_vars y
  refine (q_point m c t ht y0 y1).trans (congrArg _ ?_)
  blk_ext [idx t]

/-- After the region the keys are the reference's. -/
theorem final7 (c : Dev nD) : (dats m 0 c).arrAt 7 (cfgs 0).N = flat8 (heads8 (part768 (ref m c)) (Ka m c)) := by
  refine (dats m 0 c).arrAt_eq_of_covers 7 _ (by decide +kernel) fun t _ y => ?_
  blk_simp
  rw [after0_7]
  frame_out
  have ht := (idx t).2.2.2.2.2.2.2.2.2.2
  idx_vars y
  rw [rows_held]
  refine (k_point m c t ht y0 y1).trans (congrArg _ ?_)
  blk_ext [idx t]

/-- After the region the values are the reference's. -/
theorem final8 (c : Dev nD) : (dats m 0 c).arrAt 8 (cfgs 0).N = flat8 (part1280 (ref m c)) := by
  refine (dats m 0 c).arrAt_eq_of_covers 8 _ (by decide +kernel) fun t _ y => ?_
  blk_simp
  rw [after0_8]
  frame_out
  have ht := (idx t).2.2.2.2.2.2.2.2.2.2
  idx_vars y
  rw [rows_held]
  refine (v_point m c t ht y0 y1).trans (congrArg _ ?_)
  blk_ext [idx t]

/-- After the region the memory queries are the reference's. -/
theorem final9 (c : Dev nD) : (dats m 0 c).arrAt 9 (cfgs 0).N = flat4 (heads4 (part1792 (ref m c)) (Ma m c)) := by
  refine (dats m 0 c).arrAt_eq_of_covers 9 _ (by decide +kernel) fun t _ y => ?_
  blk_simp
  rw [after0_9]
  frame_out
  have ht := (idx t).2.2.2.2.2.2.2.2.2.2
  idx_vars y
  rw [rows_held]
  refine (m_point m c t ht y0 y1).trans (congrArg _ ?_)
  blk_ext [idx t]

/-- Laying eight heads out flat and cutting them again gives the array back. -/
theorem unflat8 (a : FVec Ideal S32x8x8x64 .f32) : shapeCast S32x8x8x64 (flat8 a) shapeCasts_S256x512_S32x8x8x64 = a := by
  funext i
  idx_vars i
  refine Eq.trans (b := flat8 a (ix2 ⟨i0.val * 8 + i1, by omega⟩ ⟨i2.val * 64 + i3, by omega⟩)) ?_ ?_
  · generalize flat8 a = f
    pointwise
  · rw [flat8_apply]
    refine congrArg a (funext fun k => ?_)
    fin_cases k <;> apply Fin.ext <;> simp <;> omega

/-- Laying the sequences' rows out flat and cutting them again gives the array back. -/
theorem unflatU (a : FVec Ideal S32x8x256 .f32) : shapeCast S32x8x256 (flatU a) shapeCasts_S256x256_S32x8x256 = a := by
  funext i
  idx_vars i
  refine Eq.trans (b := flatU a (ix2 ⟨i0.val * 8 + i1, by omega⟩ i2)) ?_ ?_
  · generalize flatU a = f
    pointwise
  · unfold flatU
    refine congrArg a (funext fun k => ?_)
    fin_cases k <;> apply Fin.ext <;> simp <;> omega

/-- The keys returned are the reference's. -/
theorem tail26 (c : Dev nD) : Pipeline.afterTail₀ cfgs (dats m) 0 (V0 m) [hostOps1] c main_v26 = heads8 (part768 (ref m c)) (Ka m c) := by
  unfold Pipeline.afterTail₀
  simp only [hostOps1, List.flatten_cons, List.flatten_nil, List.append_nil]
  after_results
  refine (congrArg (fun A : FVec Ideal S256x512 .f32 => shapeCast S32x8x8x64 A shapeCasts_S256x512_S32x8x8x64)
    ((Pipeline.withArrays_arr spec0 (by decide) c (V0 m c) (fun w => (dats m 0 c).arrAt w (cfgs 0).N) 7).trans (final7 m c))).trans (unflat8 _)

/-- The values returned are the reference's. -/
theorem tail27 (c : Dev nD) : Pipeline.afterTail₀ cfgs (dats m) 0 (V0 m) [hostOps1] c main_v27 = part1280 (ref m c) := by
  unfold Pipeline.afterTail₀
  simp only [hostOps1, List.flatten_cons, List.flatten_nil, List.append_nil]
  after_results
  refine (congrArg (fun A : FVec Ideal S256x512 .f32 => shapeCast S32x8x8x64 A shapeCasts_S256x512_S32x8x8x64)
    ((Pipeline.withArrays_arr spec0 (by decide) c (V0 m c) (fun w => (dats m 0 c).arrAt w (cfgs 0).N) 8).trans (final8 m c))).trans (unflat8 _)

/-- The rows before the call, as the region leaves them. -/
theorem kept (c : Dev nD) : Pipeline.withArrays (cfgs 0).spec c (V0 m c) (fun w => (dats m 0 c).arrAt w (cfgs 0).N) (Proc.tc.devRef main_arg1)
    = m ((c : Thread nD τ).loc main_arg1) := by
  refine (Pipeline.withArrays_of_ne _ c (V0 m c) _ main_arg1 (by decide)).trans ?_
  unfold V0
  simp only [hostOps0, hostOps0_1, hostOps0_2, hostOps0_3, hostOps0_4, List.flatten_cons, List.flatten_nil, List.append_nil,
    List.cons_append, List.nil_append]
  after_results <;> rfl

/-- The pooling state returned is the reference's. -/
theorem tail25 (c : Dev nD) : Pipeline.afterTail₀ cfgs (dats m) 0 (V0 m) [hostOps1] c main_v25
    = recent (m ((c : Thread nD τ).loc main_arg1)) (partU (ref m c)) := by
  unfold Pipeline.afterTail₀
  simp only [hostOps1, List.flatten_cons, List.flatten_nil, List.append_nil]
  after_results
  have e : shapeCast S32x8x256 (Pipeline.withArrays spec0 c (V0 m c) (fun w => (dats m 0 c).arrAt w (cfgs 0).N) (Proc.tc.devRef main_v22_0)) shapeCasts_S256x256_S32x8x256
      = partU (ref m c) :=
    (congrArg (fun A : FVec Ideal S256x256 .f32 => shapeCast S32x8x256 A shapeCasts_S256x256_S32x8x256)
      ((Pipeline.withArrays_arr spec0 (by decide) c (V0 m c) (fun w => (dats m 0 c).arrAt w (cfgs 0).N) 5).trans (final5 m c))).trans (unflatU _)
  have k := kept m c
  exact congrArg₂ (fun (a : FVec Ideal S32x15x256 .f32) (b : FVec Ideal S32x8x256 .f32) => recent a b) k e

/-- The run: every result at the reference's stages of the arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v26) = heads8 (part768 (ref m c)) (Ka m c)
      ∧ r.2.mem ((c.tc : Thread nD τ).loc main_v27) = part1280 (ref m c)
      ∧ r.2.mem ((c.tc : Thread nD τ).loc main_v25) = recent (m ((c : Thread nD τ).loc main_arg1)) (partU (ref m c))
      ∧ r.2.mem ((c.tc : Thread nD τ).loc main_v22_1) = flat8 (heads8 (part256 (ref m c)) (Qa m c))
      ∧ r.2.mem ((c.tc : Thread nD τ).loc main_v22_4) = flat4 (heads4 (part1792 (ref m c)) (Ma m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    have rest := fun (b : Ref sig .tc) hb => (h c).2 b hb
    ⟨(rest main_v26 (Pipeline.mem_restRefs_of _ (by decide) (by decide))).trans (tail26 m c),
      (rest main_v27 (Pipeline.mem_restRefs_of _ (by decide) (by decide))).trans (tail27 m c),
      (rest main_v25 (Pipeline.mem_restRefs_of _ (by decide) (by decide))).trans (tail25 m c),
      ((h c).1 6).trans (final6 m c),
      ((h c).1 9).trans (final9 m c),
      (rest main_arg0 (Pipeline.mem_restRefs_of _ (by decide) (by decide))).trans (W_main_arg0 m (dats m) c),
      (rest main_arg1 (Pipeline.mem_restRefs_of _ (by decide) (by decide))).trans (W_main_arg1 m (dats m) c),
      (rest main_arg2 (Pipeline.mem_restRefs_of _ (by decide) (by decide))).trans (W_main_arg2 m (dats m) c),
      (rest main_arg3 (Pipeline.mem_restRefs_of _ (by decide) (by decide))).trans (W_main_arg3 m (dats m) c),
      (rest main_arg4 (Pipeline.mem_restRefs_of _ (by decide) (by decide))).trans (W_main_arg4 m (dats m) c),
      (rest main_arg5 (Pipeline.mem_restRefs_of _ (by decide) (by decide))).trans (W_main_arg5 m (dats m) c),
      (rest main_arg6 (Pipeline.mem_restRefs_of _ (by decide) (by decide))).trans (W_main_arg6 m (dats m) c)⟩) (run_main m ρ)

end Cert.SampleIdeal.Proj

end
-- ==== Proof.ProjectRef.lean ====
/- Hand-written, untrusted: the reference projection of the prompt rows, stage by stage, each stage read at an index. -/
module

public import proofs.«01_k».proof.Proof.Gen.ProjectRefIdeal.Run
public import proofs.«01_k».proof.Proof.Norm

@[expose] public section

set_option maxRecDepth 16384

noncomputable section

open Idealize.ShloMosaic Idealize.ShloMosaic.TcCoe Idealize.SL.Sem
open scoped BigOperators

namespace Cert.ProjectRefIdeal.Proj

open Cert.ProjectRefIdeal Cert.ProjectRefIdeal.Gen Cert.Norm

/-- The sum of squares of each row. -/
def sumsq (x : FVec Ideal S4x4096x1024 .f32) : FVec Ideal S4x4096 .f32 :=
  Host.reduceAdd (mulf x x) (constant S_ .f32 0x00000000#32) reducesTo_S4x4096x1024_S4x4096_d2 h_S_

/-- A row's sum of squares. -/
theorem sumsq_apply (x : FVec Ideal S4x4096x1024 .f32) (b : Fin 4) (t : Fin 4096) :
    sumsq x (ix2 b t) = ∑ i : Fin 1024, x (ix3 b t i) * x (ix3 b t i) := by
  pointwise [sumsq]

/-- The reciprocal root mean square of each row. -/
def scale (s : FVec Ideal S4x4096 .f32) : FVec Ideal S4x4096x1 .f32 :=
  Host.rsqrt (addf (Host.divf (broadcastInDim S4x4096x1 ![0, 1] bcast_S4x4096_S4x4096x1_0_1 s)
      (broadcastInDim S4x4096x1 ![] bcast_S_S4x4096x1 (constant S_ .f32 0x44800000#32)))
    (broadcastInDim S4x4096x1 ![] bcast_S_S4x4096x1 (constant S_ .f32 0x358637BD#32)))

/-- A row's inverse root mean square. -/
theorem scale_apply (s : FVec Ideal S4x4096 .f32) (b : Fin 4) (t : Fin 4096) :
    scale s (ix3 b t 0) = Ideal.rsqrt (Ideal.div (s (ix2 b t)) width + eps) := by
  pointwise [scale]

/-- The rows over their root mean square, times the gain. -/
def rows (x : FVec Ideal S4x4096x1024 .f32) (k : FVec Ideal S4x4096x1 .f32) (g : FVec Ideal S1024 .f32) : FVec Ideal S4x4096x1024 .f32 :=
  mulf (mulf x (broadcastInDim S4x4096x1024 ![0, 1, 2] bcast_S4x4096x1_S4x4096x1024_0_1_2 k))
    (broadcastInDim S4x4096x1024 ![0, 1, 2] bcast_S1x1x1024_S4x4096x1024_0_1_2 (broadcastInDim S1x1x1024 ![2] bcast_S1024_S1x1x1024_2 g))

/-- A row's entry, by the row's factor and the gain. -/
theorem rows_apply (x : FVec Ideal S4x4096x1024 .f32) (k : FVec Ideal S4x4096x1 .f32) (g : FVec Ideal S1024 .f32)
    (b : Fin 4) (t : Fin 4096) (i : Fin 1024) :
    rows x k g (ix3 b t i) = x (ix3 b t i) * k (ix3 b t 0) * g (ix1 i) := by
  pointwise [rows]

/-- Their product with the weights. -/
def product (h : FVec Ideal S4x4096x1024 .f32) (w : FVec Ideal S1024x2048 .f32) : FVec Ideal S4x4096x2048 .f32 :=
  Host.dotGeneral dot_S4x4096x1024_S1024x2048_S4x4096x2048_2_0_01_1_n_n none h w

/-- An entry of the product of the rows with the weights. -/
theorem product_apply (h : FVec Ideal S4x4096x1024 .f32) (w : FVec Ideal S1024x2048 .f32) (b : Fin 4) (t : Fin 4096) (l : Fin 2048) :
    product h w (ix3 b t l) = ∑ i : Fin 1024, h (ix3 b t i) * w (ix2 i l) := by
  pointwise [product]

/-- The whole projection of the rows. -/
def mixed (x : FVec Ideal S4x4096x1024 .f32) (g : FVec Ideal S1024 .f32) (w : FVec Ideal S1024x2048 .f32) : FVec Ideal S4x4096x2048 .f32 :=
  product (rows x (scale (sumsq x)) g) w

/-- An entry of the product of the normalised rows with the weights. -/
theorem mixed_apply (x : FVec Ideal S4x4096x1024 .f32) (g : FVec Ideal S1024 .f32) (w : FVec Ideal S1024x2048 .f32)
    (b : Fin 4) (t : Fin 4096) (l : Fin 2048) :
    mixed x g w (ix3 b t l) = mix (rmsRow (fun i => x (ix3 b t i)) (fun i => g (ix1 i))) (fun i => w (ix2 i l)) := by
  rw [mixed, product_apply, mix]
  refine Finset.sum_congr rfl fun i _ => ?_
  rw [rows_apply, scale_apply, sumsq_apply, rmsRow]

/-! Heads of 64 lanes, 8 of them. -/

/-- The sums of squares of eight heads. -/
def headSum8 (y : FVec Ideal S4x4096x8x64 .f32) : FVec Ideal S4x4096x8 .f32 :=
  Host.reduceAdd (mulf y y) (constant S_ .f32 0x00000000#32) reducesTo_S4x4096x8x64_S4x4096x8_d3 h_S_

/-- A head's sum of squares. -/
theorem headSum8_apply (y : FVec Ideal S4x4096x8x64 .f32) (b : Fin 4) (t : Fin 4096) (h : Fin 8) :
    headSum8 y (ix3 b t h) = ∑ j : Fin 64, y (ix4 b t h j) * y (ix4 b t h j) := by
  pointwise [headSum8]

/-- The inverse root mean squares of eight heads. -/
def headScale8 (s : FVec Ideal S4x4096x8 .f32) : FVec Ideal S4x4096x8x1 .f32 :=
  Host.rsqrt (addf (Host.divf (broadcastInDim S4x4096x8x1 ![0, 1, 2] bcast_S4x4096x8_S4x4096x8x1_0_1_2 s)
      (broadcastInDim S4x4096x8x1 ![] bcast_S_S4x4096x8x1 (constant S_ .f32 0x42800000#32)))
    (broadcastInDim S4x4096x8x1 ![] bcast_S_S4x4096x8x1 (constant S_ .f32 0x358637BD#32)))

/-- A head's inverse root mean square. -/
theorem headScale8_apply (s : FVec Ideal S4x4096x8 .f32) (b : Fin 4) (t : Fin 4096) (h : Fin 8) :
    headScale8 s (ix4 b t h 0) = Ideal.rsqrt (Ideal.div (s (ix3 b t h)) lanes + eps) := by
  pointwise [headScale8]

/-- The entries of eight heads, by each head's factor and the gain. -/
def headRows8 (y : FVec Ideal S4x4096x8x64 .f32) (k : FVec Ideal S4x4096x8x1 .f32) (g : FVec Ideal S64 .f32) : FVec Ideal S4x4096x8x64 .f32 :=
  mulf (mulf y (broadcastInDim S4x4096x8x64 ![0, 1, 2, 3] bcast_S4x4096x8x1_S4x4096x8x64_0_1_2_3 k))
    (broadcastInDim S4x4096x8x64 ![0, 1, 2, 3] bcast_S1x1x1x64_S4x4096x8x64_0_1_2_3 (broadcastInDim S1x1x1x64 ![3] bcast_S64_S1x1x1x64_3 g))

/-- A head's entry, by the head's factor and the gain. -/
theorem headRows8_apply (y : FVec Ideal S4x4096x8x64 .f32) (k : FVec Ideal S4x4096x8x1 .f32) (g : FVec Ideal S64 .f32)
    (b : Fin 4) (t : Fin 4096) (h : Fin 8) (d : Fin 64) :
    headRows8 y k g (ix4 b t h d) = y (ix4 b t h d) * k (ix4 b t h 0) * g (ix1 d) := by
  pointwise [headRows8]

/-- Every head over its root mean square, times the gain. -/
def heads8 (y : FVec Ideal S4x4096x8x64 .f32) (g : FVec Ideal S64 .f32) : FVec Ideal S4x4096x8x64 .f32 :=
  headRows8 y (headScale8 (headSum8 y)) g

/-- The normalised heads at an entry are the head's RMS norm. -/
theorem heads8_apply (y : FVec Ideal S4x4096x8x64 .f32) (g : FVec Ideal S64 .f32) (b : Fin 4) (t : Fin 4096) (h : Fin 8) (d : Fin 64) :
    heads8 y g (ix4 b t h d) = headNorm (fun j => y (ix4 b t h j)) (g (ix1 d)) d := by
  rw [heads8, headRows8_apply, headScale8_apply, headSum8_apply, headNorm]

/-! Heads of 64 lanes, 4 of them. -/

/-- The sums of squares of four heads. -/
def headSum4 (y : FVec Ideal S4x4096x4x64 .f32) : FVec Ideal S4x4096x4 .f32 :=
  Host.reduceAdd (mulf y y) (constant S_ .f32 0x00000000#32) reducesTo_S4x4096x4x64_S4x4096x4_d3 h_S_

/-- A head's sum of squares. -/
theorem headSum4_apply (y : FVec Ideal S4x4096x4x64 .f32) (b : Fin 4) (t : Fin 4096) (h : Fin 4) :
    headSum4 y (ix3 b t h) = ∑ j : Fin 64, y (ix4 b t h j) * y (ix4 b t h j) := by
  pointwise [headSum4]

/-- The inverse root mean squares of four heads. -/
def headScale4 (s : FVec Ideal S4x4096x4 .f32) : FVec Ideal S4x4096x4x1 .f32 :=
  Host.rsqrt (addf (Host.divf (broadcastInDim S4x4096x4x1 ![0, 1, 2] bcast_S4x4096x4_S4x4096x4x1_0_1_2 s)
      (broadcastInDim S4x4096x4x1 ![] bcast_S_S4x4096x4x1 (constant S_ .f32 0x42800000#32)))
    (broadcastInDim S4x4096x4x1 ![] bcast_S_S4x4096x4x1 (constant S_ .f32 0x358637BD#32)))

/-- A head's inverse root mean square. -/
theorem headScale4_apply (s : FVec Ideal S4x4096x4 .f32) (b : Fin 4) (t : Fin 4096) (h : Fin 4) :
    headScale4 s (ix4 b t h 0) = Ideal.rsqrt (Ideal.div (s (ix3 b t h)) lanes + eps) := by
  pointwise [headScale4]

/-- The entries of four heads, by each head's factor and the gain. -/
def headRows4 (y : FVec Ideal S4x4096x4x64 .f32) (k : FVec Ideal S4x4096x4x1 .f32) (g : FVec Ideal S64 .f32) : FVec Ideal S4x4096x4x64 .f32 :=
  mulf (mulf y (broadcastInDim S4x4096x4x64 ![0, 1, 2, 3] bcast_S4x4096x4x1_S4x4096x4x64_0_1_2_3 k))
    (broadcastInDim S4x4096x4x64 ![0, 1, 2, 3] bcast_S1x1x1x64_S4x4096x4x64_0_1_2_3 (broadcastInDim S1x1x1x64 ![3] bcast_S64_S1x1x1x64_3 g))

/-- A head's entry, by the head's factor and the gain. -/
theorem headRows4_apply (y : FVec Ideal S4x4096x4x64 .f32) (k : FVec Ideal S4x4096x4x1 .f32) (g : FVec Ideal S64 .f32)
    (b : Fin 4) (t : Fin 4096) (h : Fin 4) (d : Fin 64) :
    headRows4 y k g (ix4 b t h d) = y (ix4 b t h d) * k (ix4 b t h 0) * g (ix1 d) := by
  pointwise [headRows4]

/-- Every head over its root mean square, times the gain. -/
def heads4 (y : FVec Ideal S4x4096x4x64 .f32) (g : FVec Ideal S64 .f32) : FVec Ideal S4x4096x4x64 .f32 :=
  headRows4 y (headScale4 (headSum4 y)) g

/-- The normalised heads at an entry are the head's RMS norm. -/
theorem heads4_apply (y : FVec Ideal S4x4096x4x64 .f32) (g : FVec Ideal S64 .f32) (b : Fin 4) (t : Fin 4096) (h : Fin 4) (d : Fin 64) :
    heads4 y g (ix4 b t h d) = headNorm (fun j => y (ix4 b t h j)) (g (ix1 d)) d := by
  rw [heads4, headRows4_apply, headScale4_apply, headSum4_apply, headNorm]

/-- Columns 256 to 767 of the projection, as heads. -/
def part256 (y : FVec Ideal S4x4096x2048 .f32) : FVec Ideal S4x4096x8x64 .f32 :=
  shapeCast S4x4096x8x64 (extractStridedSlice S4x4096x512 ![0, 0, 256] y slices_S4x4096x2048_S4x4096x512_0_0_256) shapeCasts_S4x4096x512_S4x4096x8x64

/-- The lanes from 256 on, cut into heads. -/
theorem part256_apply (y : FVec Ideal S4x4096x2048 .f32) (b : Fin 4) (t : Fin 4096) (h : Fin 8) (d : Fin 64) :
    part256 y (ix4 b t h d) = y (ix3 b t ⟨256 + (h.val * 64 + d), by omega⟩) := by
  pointwise [part256]

/-- Columns 768 to 1279 of the projection, as heads. -/
def part768 (y : FVec Ideal S4x4096x2048 .f32) : FVec Ideal S4x4096x8x64 .f32 :=
  shapeCast S4x4096x8x64 (extractStridedSlice S4x4096x512 ![0, 0, 768] y slices_S4x4096x2048_S4x4096x512_0_0_768) shapeCasts_S4x4096x512_S4x4096x8x64

/-- The lanes from 768 on, cut into heads. -/
theorem part768_apply (y : FVec Ideal S4x4096x2048 .f32) (b : Fin 4) (t : Fin 4096) (h : Fin 8) (d : Fin 64) :
    part768 y (ix4 b t h d) = y (ix3 b t ⟨768 + (h.val * 64 + d), by omega⟩) := by
  pointwise [part768]

/-- Columns 1280 to 1791 of the projection, as heads. -/
def part1280 (y : FVec Ideal S4x4096x2048 .f32) : FVec Ideal S4x4096x8x64 .f32 :=
  shapeCast S4x4096x8x64 (extractStridedSlice S4x4096x512 ![0, 0, 1280] y slices_S4x4096x2048_S4x4096x512_0_0_1280) shapeCasts_S4x4096x512_S4x4096x8x64

/-- The lanes from 1280 on, cut into heads. -/
theorem part1280_apply (y : FVec Ideal S4x4096x2048 .f32) (b : Fin 4) (t : Fin 4096) (h : Fin 8) (d : Fin 64) :
    part1280 y (ix4 b t h d) = y (ix3 b t ⟨1280 + (h.val * 64 + d), by omega⟩) := by
  pointwise [part1280]

/-- Columns 1792 to 2047 of the projection, as heads. -/
def part1792 (y : FVec Ideal S4x4096x2048 .f32) : FVec Ideal S4x4096x4x64 .f32 :=
  shapeCast S4x4096x4x64 (extractStridedSlice S4x4096x256 ![0, 0, 1792] y slices_S4x4096x2048_S4x4096x256_0_0_1792) shapeCasts_S4x4096x256_S4x4096x4x64

/-- The lanes from 1792 on, cut into heads. -/
theorem part1792_apply (y : FVec Ideal S4x4096x2048 .f32) (b : Fin 4) (t : Fin 4096) (h : Fin 4) (d : Fin 64) :
    part1792 y (ix4 b t h d) = y (ix3 b t ⟨1792 + (h.val * 64 + d), by omega⟩) := by
  pointwise [part1792]

/-- Columns 0 to 255 of the projection. -/
def partU (y : FVec Ideal S4x4096x2048 .f32) : FVec Ideal S4x4096x256 .f32 :=
  extractStridedSlice S4x4096x256 ![0, 0, 0] y slices_S4x4096x2048_S4x4096x256_0_0_0

/-- The first 256 lanes. -/
theorem partU_apply (y : FVec Ideal S4x4096x2048 .f32) (b : Fin 4) (t : Fin 4096) (l : Fin 256) :
    partU y (ix3 b t l) = y (ix3 b t ⟨l, by omega⟩) := by
  pointwise [partU]

/-- Eight heads side by side, one row per token. -/
def flat8 (a : FVec Ideal S4x4096x8x64 .f32) : FVec Ideal S16384x512 .f32 := shapeCast S16384x512 a shapeCasts_S4x4096x8x64_S16384x512

/-- Eight heads laid out flat, at an entry. -/
theorem flat8_apply (a : FVec Ideal S4x4096x8x64 .f32) (r : Fin 16384) (l : Fin 512) :
    flat8 a (ix2 r l) = a (ix4 ⟨r.val / 4096, by omega⟩ ⟨r.val % 4096, by omega⟩ ⟨l.val / 64, by omega⟩ ⟨l.val % 64, by omega⟩) := by
  pointwise [flat8]

/-- Four heads side by side, one row per token. -/
def flat4 (a : FVec Ideal S4x4096x4x64 .f32) : FVec Ideal S16384x256 .f32 := shapeCast S16384x256 a shapeCasts_S4x4096x4x64_S16384x256

/-- Four heads laid out flat, at an entry. -/
theorem flat4_apply (a : FVec Ideal S4x4096x4x64 .f32) (r : Fin 16384) (l : Fin 256) :
    flat4 a (ix2 r l) = a (ix4 ⟨r.val / 4096, by omega⟩ ⟨r.val % 4096, by omega⟩ ⟨l.val / 64, by omega⟩ ⟨l.val % 64, by omega⟩) := by
  pointwise [flat4]

/-- The projection of device `c`'s arguments. -/
abbrev ref (m : (ℓ : Loc nD τ sig) → Buf (Elt Ideal) ℓ) (c : Dev nD) : FVec Ideal S4x4096x2048 .f32 :=
  mixed (m ((c.tc : Thread nD τ).loc main_arg0)) (m ((c.tc : Thread nD τ).loc main_arg1)) (m ((c.tc : Thread nD τ).loc main_arg2))

/-- The rows of `u`, one below the other. -/
def flatU (a : FVec Ideal S4x4096x256 .f32) : FVec Ideal S16384x256 .f32 := shapeCast S16384x256 a shapeCasts_S4x4096x256_S16384x256

/-- The sequences' rows laid out flat, at an entry. -/
theorem flatU_apply (a : FVec Ideal S4x4096x256 .f32) (r : Fin 16384) (l : Fin 256) :
    flatU a (ix2 r l) = a (ix3 ⟨r.val / 4096, by omega⟩ ⟨r.val % 4096, by omega⟩ l) := by
  pointwise [flatU]

/-- The last fifteen rows of each sequence. -/
def recent (a : FVec Ideal S4x4096x256 .f32) : FVec Ideal S4x15x256 .f32 :=
  extractStridedSlice S4x15x256 ![0, 4081, 0] a slices_S4x4096x256_S4x15x256_0_4081_0

/-- The sum of each block of 256 keys. -/
def blockSum (k : FVec Ideal S4x4096x8x64 .f32) : FVec Ideal S4x16x8x64 .f32 :=
  Host.reduceAdd (shapeCast S4x16x256x8x64 k shapeCasts_S4x4096x8x64_S4x16x256x8x64) (constant S_ .f32 0x00000000#32)
    reducesTo_S4x16x256x8x64_S4x16x8x64_d2 h_S_

/-- The sum of the keys over a block of 256 rows. -/
theorem blockSum_apply (k : FVec Ideal S4x4096x8x64 .f32) (b : Fin 4) (n : Fin 16) (h : Fin 8) (d : Fin 64) :
    blockSum k (ix4 b n h d) = ∑ s : Fin 256, k (ix4 b ⟨n.val * 256 + s, by omega⟩ h d) := by
  pointwise [blockSum]

/-- The mean of each block of 256 keys. -/
def blockMean (s : FVec Ideal S4x16x8x64 .f32) : FVec Ideal S4x16x512 .f32 :=
  shapeCast S4x16x512 (Host.divf s (broadcastInDim S4x16x8x64 ![] bcast_S_S4x16x8x64 (constant S_ .f32 0x43800000#32))) shapeCasts_S4x16x8x64_S4x16x512

/-- The mean of the keys over a block of 256 rows: the sum divided by 256. -/
theorem blockMean_apply (s : FVec Ideal S4x16x8x64 .f32) (b : Fin 4) (n : Fin 16) (l : Fin 512) :
    blockMean s (ix3 b n l) = Ideal.div (s (ix4 b n ⟨l.val / 64, by omega⟩ ⟨l.val % 64, by omega⟩)) (Ideal.ofBits .f32 0x43800000#32) := by
  pointwise [blockMean]

/-- The reference's run: every result at its stages, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = heads8 (part768 (ref m c)) (m ((c.tc : Thread nD τ).loc main_arg4))
      ∧ r.2.mem ((c.tc : Thread nD τ).loc main_v47) = part1280 (ref m c)
      ∧ r.2.mem ((c.tc : Thread nD τ).loc main_v66) = recent (partU (ref m c))
      ∧ r.2.mem ((c.tc : Thread nD τ).loc main_v67) = flatU (partU (ref m c))
      ∧ r.2.mem ((c.tc : Thread nD τ).loc main_v68) = flat8 (heads8 (part256 (ref m c)) (m ((c.tc : Thread nD τ).loc main_arg3)))
      ∧ r.2.mem ((c.tc : Thread nD τ).loc main_v69) = blockMean (blockSum (heads8 (part768 (ref m c)) (m ((c.tc : Thread nD τ).loc main_arg4))))
      ∧ r.2.mem ((c.tc : Thread nD τ).loc main_v70) = flat4 (heads4 (part1792 (ref m c)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ProjectRefIdeal.Value.run m ρ

end Cert.ProjectRefIdeal.Proj

end
-- ==== Proof.ProjectPoint.lean ====
/- Hand-written, untrusted: the projection of the prompt rows, what a grid point stores and what the run leaves. -/
module

public import proofs.«01_k».proof.Proof.Gen.ProjectIdeal.Frame
public import proofs.«01_k».proof.Proof.ProjectRef
public import proofs.«01_k».proof.Proof.MemoryPoint

@[expose] public section

set_option maxRecDepth 16384

noncomputable section

open Idealize.ShloMosaic Idealize.ShloMosaic.TcCoe Idealize.SL.Sem
open scoped BigOperators

namespace Cert.ProjectIdeal.Proj

open Cert.ProjectIdeal Cert.ProjectIdeal.Gen Cert.Norm
open Cert.MemoryIdeal.Proj (ones ones_apply)
open Cert.ProjectRefIdeal.Proj (mixed mixed_apply heads8 heads8_apply heads4 heads4_apply partU partU_apply part256 part256_apply
  part768 part768_apply part1280 part1280_apply part1792 part1792_apply flat8 flat8_apply flat4 flat4_apply recent flatU flatU_apply blockSum blockSum_apply blockMean blockMean_apply)

variable (m : (ℓ : Loc nD τ sig) → Buf (Elt Ideal) ℓ)

/-! ## What one grid point stores -/

/-- The rows a point computes first are its rows' RMS norm. -/
theorem rows_pay (v0 : Vec Ideal S512x1024 .f32) (v12 : Vec Ideal S1x1024 .f32) (r : Fin 512) (x : Fin 1024) :
    k0_pay1 (F := Ideal) v0 v12 (ix2 r x) = rmsRow (fun i => v0 (ix2 r i)) (fun i => v12 (ix2 0 i)) x := by
  pointwise [k0_pay1]
  rfl

/-- The first columns, not normalised. -/
theorem u_pay (v0 : Vec Ideal S512x1024 .f32) (v12 : Vec Ideal S1x1024 .f32) (w : Vec Ideal S1024x256 .bf16) (r : Fin 512) (l : Fin 256) :
    k0_pay2 (F := Ideal) v0 v12 w (ix2 r l) = ∑ x : Fin 1024, k0_pay1 (F := Ideal) v0 v12 (ix2 r x) * w (ix2 x l) := by
  unfold k0_pay2
  generalize k0_pay1 (F := Ideal) v0 v12 = h
  pointwise

/-- The queries. -/
theorem q_pay (v0 : Vec Ideal S512x1024 .f32) (v12 : Vec Ideal S1x1024 .f32) (w : Vec Ideal S1024x512 .bf16)
    (o : Vec Ideal S512x512 .bf16) (g : Vec Ideal S1x512 .f32) (r : Fin 512) (l : Fin 512) (y : Fin 512 → EReal)
    (hy : ∀ l, ∑ x : Fin 1024, k0_pay1 (F := Ideal) v0 v12 (ix2 r x) * w (ix2 x l) = y l) :
    k0_pay4 (F := Ideal) (k0_pay3 v0 v12 w o) g (ix2 r l)
      = y l * Ideal.rsqrt ((∑ x, y x * y x * o (ix2 x l)) * perLane + eps) * g (ix2 0 l) := by
  unfold k0_pay4 k0_pay3
  generalize k0_pay1 (F := Ideal) v0 v12 = h at hy ⊢
  pointwise
  simp only [hy]

/-- The keys. -/
theorem k_pay (h : FVec Ideal S512x1024 .bf16) (w : Vec Ideal S1024x512 .bf16)
    (o : Vec Ideal S512x512 .bf16) (g : Vec Ideal S1x512 .f32) (r : Fin 512) (l : Fin 512) (y : Fin 512 → EReal)
    (hy : ∀ l, ∑ x : Fin 1024, h (ix2 r x) * w (ix2 x l) = y l) :
    k0_pay5 (F := Ideal) h w o g (ix2 r l)
      = y l * Ideal.rsqrt ((∑ x, y x * y x * o (ix2 x l)) * perLane + eps) * g (ix2 0 l) := by
  unfold k0_pay5
  pointwise
  simp only [hy]

/-- The values. -/
theorem v_pay (h : FVec Ideal S512x1024 .bf16) (w : Vec Ideal S1024x512 .bf16) (r : Fin 512) (l : Fin 512) :
    k0_pay10 (F := Ideal) h w (ix2 r l) = ∑ x : Fin 1024, h (ix2 r x) * w (ix2 x l) := by
  pointwise [k0_pay10]

/-- The memory queries. -/
theorem m_pay (h : FVec Ideal S512x1024 .bf16) (w : Vec Ideal S1024x256 .bf16)
    (o : Vec Ideal S256x256 .bf16) (g : Vec Ideal S1x256 .f32) (r : Fin 512) (l : Fin 256) (y : Fin 256 → EReal)
    (hy : ∀ l, ∑ x : Fin 1024, h (ix2 r x) * w (ix2 x l) = y l) :
    k0_pay12 (F := Ideal) h w o g (ix2 r l)
      = y l * Ideal.rsqrt ((∑ x, y x * y x * o (ix2 x l)) * perLane + eps) * g (ix2 0 l) := by
  unfold k0_pay12
  pointwise
  simp only [hy]

/-! ## The arrays the region finds -/

/-- The gain of each of eight heads. -/
def tile8 (a : FVec Ideal S64 .f32) : FVec Ideal S512 .f32 :=
  shapeCast S512 (broadcastInDim S8x64 ![0, 1] bcast_S1x64_S8x64_0_1 (shapeCast S1x64 a shapeCasts_S64_S1x64)) shapeCasts_S8x64_S512

/-- The gain repeated for eight heads, at a lane. -/
theorem tile8_apply (a : FVec Ideal S64 .f32) (l : Fin 512) : tile8 a (ix1 l) = a (ix1 ⟨l.val % 64, Nat.mod_lt _ (by norm_num)⟩) := by
  pointwise [tile8]

/-- The gain of each of four heads. -/
def tile4 (a : FVec Ideal S64 .f32) : FVec Ideal S256 .f32 :=
  shapeCast S256 (broadcastInDim S4x64 ![0, 1] bcast_S1x64_S4x64_0_1 (shapeCast S1x64 a shapeCasts_S64_S1x64)) shapeCasts_S4x64_S256

/-- The gain repeated for four heads, at a lane. -/
theorem tile4_apply (a : FVec Ideal S64 .f32) (l : Fin 256) : tile4 a (ix1 l) = a (ix1 ⟨l.val % 64, Nat.mod_lt _ (by norm_num)⟩) := by
  pointwise [tile4]

/-- The gains of all lanes, as the host joins them. -/
def join (p0 : FVec Ideal S256 .f32) (p1 p2 p3 : FVec Ideal S512 .f32) (p4 : FVec Ideal S256 .f32) : FVec Ideal S1x2048 .f32 :=
  shapeCast S1x2048 (concatenate S2048 0 [⟨S256, p0⟩, ⟨S512, p1⟩, ⟨S512, p2⟩, ⟨S512, p3⟩, ⟨S256, p4⟩]
    concatenates_S256_S512_S512_S512_S256_S2048_d0) shapeCasts_S2048_S1x2048

/-- The queries' lanes of the joined gains. -/
theorem join_q (p0 : FVec Ideal S256 .f32) (p1 p2 p3 : FVec Ideal S512 .f32) (p4 : FVec Ideal S256 .f32) (l : Fin 512) :
    join p0 p1 p2 p3 p4 (ix2 0 ⟨256 + l, by omega⟩) = p1 (ix1 l) := by
  pointwise [join]

/-- The keys' lanes of the joined gains. -/
theorem join_k (p0 : FVec Ideal S256 .f32) (p1 p2 p3 : FVec Ideal S512 .f32) (p4 : FVec Ideal S256 .f32) (l : Fin 512) :
    join p0 p1 p2 p3 p4 (ix2 0 ⟨768 + l, by omega⟩) = p2 (ix1 l) := by
  pointwise [join]
  rw [dif_neg (by omega), dif_neg (by omega), dif_pos (by omega)]
  exact congrArg (fun y => p2 (ix1 y)) (Fin.ext (by simp; omega))

/-- The memory queries' lanes of the joined gains. -/
theorem join_m (p0 : FVec Ideal S256 .f32) (p1 p2 p3 : FVec Ideal S512 .f32) (p4 : FVec Ideal S256 .f32) (l : Fin 256) :
    join p0 p1 p2 p3 p4 (ix2 0 ⟨1792 + l, by omega⟩) = p4 (ix1 l) := by
  pointwise [join]
  rw [dif_neg (by omega), dif_neg (by omega), dif_neg (by omega), dif_neg (by omega)]
  exact congrArg (fun y => p4 (ix1 y)) (Fin.ext (by simp; omega))

/-- The row of head gains that the host joins: ones, the query gain, the key gain, ones, the memory query gain. -/
def gains (q k a : FVec Ideal S64 .f32) : FVec Ideal S1x2048 .f32 :=
  join (broadcastInDim S256 ![] bcast_S_S256 (constant S_ .f32 0x3F800000#32)) (tile8 q) (tile8 k)
    (broadcastInDim S512 ![] bcast_S_S512 (constant S_ .f32 0x3F800000#32)) (tile4 a)

abbrev Xa (c : Dev nD) : FVec Ideal S4x4096x1024 .f32 := m ((c : Thread nD τ).loc main_arg0)
abbrev Na (c : Dev nD) : FVec Ideal S1024 .f32 := m ((c : Thread nD τ).loc main_arg1)
abbrev Wa (c : Dev nD) : FVec Ideal S1024x2048 .f32 := m ((c : Thread nD τ).loc main_arg2)
abbrev Qa (c : Dev nD) : FVec Ideal S64 .f32 := m ((c : Thread nD τ).loc main_arg3)
abbrev Ka (c : Dev nD) : FVec Ideal S64 .f32 := m ((c : Thread nD τ).loc main_arg4)
abbrev Ma (c : Dev nD) : FVec Ideal S64 .f32 := m ((c : Thread nD τ).loc main_arg5)

/-- The rows of all sequences, one below the other. -/
def unflat (x : FVec Ideal S4x4096x1024 .f32) : FVec Ideal S16384x1024 .f32 := shapeCast S16384x1024 x shapeCasts_S4x4096x1024_S16384x1024

/-- A row of the joined rows is a row of its sequence. -/
theorem unflat_apply (x : FVec Ideal S4x4096x1024 .f32) (r : Fin 16384) (i : Fin 1024) :
    unflat x (ix2 r i) = x (ix3 ⟨r.val / 4096, by omega⟩ ⟨r.val % 4096, by omega⟩ i) := by
  pointwise [unflat]

/-- The gain as a row. -/
def unrow (g : FVec Ideal S1024 .f32) : FVec Ideal S1x1024 .f32 := shapeCast S1x1024 g shapeCasts_S1024_S1x1024

/-- A gain as a row, at an entry. -/
theorem unrow_apply (g : FVec Ideal S1024 .f32) (i : Fin 1024) : unrow g (ix2 0 i) = g (ix1 i) := by
  pointwise [unrow]

/-- The region finds the rows of all sequences, one below the other. -/
theorem V_rows (c : Dev nD) : V m c main_v19 = unflat (Xa m c) := by
  unfold V V0
  simp only [hostOps0, hostOps0_1, hostOps0_2, hostOps0_3, hostOps0_4, List.flatten_cons, List.flatten_nil, List.append_nil,
    List.cons_append, List.nil_append]
  after_results <;> rfl

/-- The region finds the norm's gain as a row. -/
theorem V_norm (c : Dev nD) : V m c main_v20 = unrow (Na m c) := by
  unfold V V0
  simp only [hostOps0, hostOps0_1, hostOps0_2, hostOps0_3, hostOps0_4, List.flatten_cons, List.flatten_nil, List.append_nil,
    List.cons_append, List.nil_append]
  after_results <;> rfl

/-- The region finds the weights in bf16. -/
theorem V_weights (c : Dev nD) : V m c main_v0 = (truncf .bf16 (Wa m c) bitsLt_bf16_f32 : FVec Ideal S1024x2048 .bf16) := by
  unfold V V0
  simp only [hostOps0, hostOps0_1, hostOps0_2, hostOps0_3, hostOps0_4, List.flatten_cons, List.flatten_nil, List.append_nil,
    List.cons_append, List.nil_append]
  after_results <;> rfl

/-- The region finds the head gains as one row. -/
theorem V_gains (c : Dev nD) : V m c main_v21 = gains (Qa m c) (Ka m c) (Ma m c) := by
  unfold V V0
  simp only [hostOps0, hostOps0_1, hostOps0_2, hostOps0_3, hostOps0_4, List.flatten_cons, List.flatten_nil, List.append_nil,
    List.cons_append, List.nil_append]
  after_results <;> rfl

/-- The region finds the block-diagonal matrix of ones. -/
theorem V_ones (c : Dev nD) : V m c main_v6 = ones := by
  unfold V V0
  simp only [hostOps0, hostOps0_1, hostOps0_2, hostOps0_3, hostOps0_4, List.flatten_cons, List.flatten_nil, List.append_nil,
    List.cons_append, List.nil_append]
  after_results <;> rfl

/-- Which block each window holds at point `t`. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0, 0]
    ∧ win0_10.index t = ![t.val, 0]
    ∧ win0_11.index t = ![t.val, 0]
    ∧ win0_12.index t = ![t.val, 0]
    ∧ t.val < 32 :=
  (by decide +kernel : ∀ t : Fin grid0.N, _)

/-- The row block of point `t` holds the point's rows. -/
theorem x_block (c : Dev nD) (t : Fin cfg0.N) (ht : t.val < 32) (r : Fin 512) (x : Fin 1024) :
    iblk m c 0 t (ix2 r x) = Xa m c (ix3 ⟨(512 * t.val + r) / 4096, by omega⟩ ⟨(512 * t.val + r) % 4096, by omega⟩ x) := by
  have e := V_rows m c
  refine Eq.trans ?_ (unflat_apply (Xa m c) ⟨512 * t.val + r, by omega⟩ x)
  generalize unflat (Xa m c) = g at e ⊢
  blk_point [iblk, e, idx t]

/-- The norm's gain is whole at every point. -/
theorem n_block (c : Dev nD) (t : Fin cfg0.N) (ht : t.val < 32) (x : Fin 1024) :
    iblk m c 1 t (ix2 0 x) = Na m c (ix1 x) := by
  have e := V_norm m c
  refine Eq.trans ?_ (unrow_apply (Na m c) x)
  generalize unrow (Na m c) = g at e ⊢
  blk_point [iblk, e, idx t]

/-- The weights are whole at every point. -/
theorem w_block (c : Dev nD) (t : Fin cfg0.N) (ht : t.val < 32) (x : Fin 1024) (l : Fin 2048) :
    iblk m c 2 t (ix2 x l) = Wa m c (ix2 x l) := by
  have e := V_weights m c
  blk_point [iblk, e, idx t]

/-- The gain block of every point is the whole row of head gains. -/
theorem g_block (c : Dev nD) (t : Fin cfg0.N) (ht : t.val < 32) (l : Fin 2048) :
    iblk m c 3 t (ix2 0 l) = gains (Qa m c) (Ka m c) (Ma m c) (ix2 0 l) := by
  have e := V_gains m c
  generalize gains (Qa m c) (Ka m c) (Ma m c) = g at e ⊢
  blk_point [iblk, e, idx t]

/-- The matrix of ones is whole at every point. -/
theorem o_block (c : Dev nD) (t : Fin cfg0.N) (ht : t.val < 32) (x l : Fin 512) :
    iblk m c 4 t (ix2 x l) = ones (ix2 x l) := by
  have e := V_ones m c
  generalize ones = g at e ⊢
  blk_point [iblk, e, idx t]

/-- Point `t`'s normalised rows. -/
theorem rows_block (c : Dev nD) (t : Fin cfg0.N) (ht : t.val < 32) (r : Fin 512) (x : Fin 1024) :
    k0_pay1 (F := Ideal) (iblk m c 0 t) (iblk m c 1 t) (ix2 r x)
      = rmsRow (fun i => Xa m c (ix3 ⟨(512 * t.val + r) / 4096, by omega⟩ ⟨(512 * t.val + r) % 4096, by omega⟩ i)) (fun i => Na m c (ix1 i)) x := by
  rw [rows_pay]
  congr 1
  · exact funext fun i => x_block m c t ht r i
  · exact funext fun i => n_block m c t ht i

/-- The reference's projection of the argument arrays. -/
abbrev ref (c : Dev nD) : FVec Ideal Cert.ProjectRefIdeal.S4x4096x2048 .f32 := mixed (Xa m c) (Na m c) (Wa m c)

/-- Point `t`'s product with a weight column that column `l` of the weights is. -/
theorem column (c : Dev nD) (t : Fin cfg0.N) (ht : t.val < 32) (r : Fin 512) (w : Fin 1024 → EReal) (l : Fin 2048)
    (hw : ∀ x, w x = Wa m c (ix2 x l)) :
    ∑ x : Fin 1024, k0_pay1 (F := Ideal) (iblk m c 0 t) (iblk m c 1 t) (ix2 r x) * w x
      = ref m c (ix3 ⟨(512 * t.val + r) / 4096, by omega⟩ ⟨(512 * t.val + r) % 4096, by omega⟩ l) := by
  rw [ref, mixed_apply, mix]
  exact Finset.sum_congr rfl fun x _ => by rw [rows_block m c t ht, hw]

/-- The columns of the weights that make the pooling input. -/
theorem w_u (c : Dev nD) (t : Fin cfg0.N) (ht : t.val < 32) (x : Fin 1024) (l : Fin 256) :
    View.ld (iblk m c 2 t) r0_2 (ix2 x l) = Wa m c (ix2 x ⟨l, by omega⟩) := by
  pointwise
  exact w_block m c t ht x ⟨l, by omega⟩

/-- The columns of the weights that make the queries. -/
theorem w_q (c : Dev nD) (t : Fin cfg0.N) (ht : t.val < 32) (x : Fin 1024) (l : Fin 512) :
    View.ld (iblk m c 2 t) r0_4 (ix2 x l) = Wa m c (ix2 x ⟨256 + l, by omega⟩) := by
  pointwise
  exact w_block m c t ht x ⟨256 + l, by omega⟩

/-- The columns of the weights that make the keys. -/
theorem w_k (c : Dev nD) (t : Fin cfg0.N) (ht : t.val < 32) (x : Fin 1024) (l : Fin 512) :
    View.ld (iblk m c 2 t) r0_7 (ix2 x l) = Wa m c (ix2 x ⟨768 + l, by omega⟩) := by
  pointwise
  exact w_block m c t ht x ⟨768 + l, by omega⟩

/-- The columns of the weights that make the values. -/
theorem w_v (c : Dev nD) (t : Fin cfg0.N) (ht : t.val < 32) (x : Fin 1024) (l : Fin 512) :
    View.ld (iblk m c 2 t) r0_11 (ix2 x l) = Wa m c (ix2 x ⟨1280 + l, by omega⟩) := by
  pointwise
  exact w_block m c t ht x ⟨1280 + l, by omega⟩

/-- The columns of the weights that make the memory queries. -/
theorem w_m (c : Dev nD) (t : Fin cfg0.N) (ht : t.val < 32) (x : Fin 1024) (l : Fin 256) :
    View.ld (iblk m c 2 t) r0_12 (ix2 x l) = Wa m c (ix2 x ⟨1792 + l, by omega⟩) := by
  pointwise
  exact w_block m c t ht x ⟨1792 + l, by omega⟩

/-- The matrix of ones: one where row and column lie in the same head. -/
theorem o_whole (c : Dev nD) (t : Fin cfg0.N) (ht : t.val < 32) (x l : Fin 512) :
    iblk m c 4 t (ix2 x l) = if x.val / 64 = l.val / 64 then (1 : EReal) else 0 :=
  (o_block m c t ht x l).trans (ones_apply x l)

/-- The part of the matrix of ones for four heads: one where row and column lie in the same head. -/
theorem o_low (c : Dev nD) (t : Fin cfg0.N) (ht : t.val < 32) (x l : Fin 256) :
    View.ld (iblk m c 4 t) r0_13 (ix2 x l) = if x.val / 64 = l.val / 64 then (1 : EReal) else 0 := by
  pointwise
  exact (o_block m c t ht ⟨x, by omega⟩ ⟨l, by omega⟩).trans (ones_apply _ _)

/-- The queries' part of the gain row repeats the query gain. -/
theorem g_q (c : Dev nD) (t : Fin cfg0.N) (ht : t.val < 32) (l : Fin 512) :
    View.ld (iblk m c 3 t) r0_6 (ix2 0 l) = Qa m c (ix1 ⟨l.val % 64, Nat.mod_lt _ (by norm_num)⟩) := by
  pointwise
  exact (g_block m c t ht ⟨256 + l, by omega⟩).trans ((join_q _ _ _ _ _ l).trans (tile8_apply _ l))

/-- The keys' part of the gain row repeats the key gain. -/
theorem g_k (c : Dev nD) (t : Fin cfg0.N) (ht : t.val < 32) (l : Fin 512) :
    View.ld (iblk m c 3 t) r0_8 (ix2 0 l) = Ka m c (ix1 ⟨l.val % 64, Nat.mod_lt _ (by norm_num)⟩) := by
  pointwise
  exact (g_block m c t ht ⟨768 + l, by omega⟩).trans ((join_k _ _ _ _ _ l).trans (tile8_apply _ l))

/-- The memory queries' part of the gain row repeats their gain. -/
theorem g_m (c : Dev nD) (t : Fin cfg0.N) (ht : t.val < 32) (l : Fin 256) :
    View.ld (iblk m c 3 t) r0_14 (ix2 0 l) = Ma m c (ix1 ⟨l.val % 64, Nat.mod_lt _ (by norm_num)⟩) := by
  pointwise
  exact (g_block m c t ht ⟨1792 + l, by omega⟩).trans ((join_m _ _ _ _ _ l).trans (tile4_apply _ l))

/-! ## The points against the reference -/

/-- What point `t` stores of the pooling input is the reference's. -/
theorem u_point (c : Dev nD) (t : Fin cfg0.N) (ht : t.val < 32) (r : Fin 512) (l : Fin 256) :
    k0_pay2 (F := Ideal) (iblk m c 0 t) (iblk m c 1 t) (View.ld (iblk m c 2 t) r0_2) (ix2 r l)
      = partU (ref m c) (ix3 ⟨(512 * t.val + r) / 4096, by omega⟩ ⟨(512 * t.val + r) % 4096, by omega⟩ l) := by
  rw [u_pay, column m c t ht r _ ⟨l, by omega⟩ fun x => w_u m c t ht x l, partU_apply]

/-- What point `t` stores of the queries is the reference's. -/
theorem q_point (c : Dev nD) (t : Fin cfg0.N) (ht : t.val < 32) (r : Fin 512) (l : Fin 512) :
    k0_pay4 (F := Ideal) (k0_pay3 (iblk m c 0 t) (iblk m c 1 t) (View.ld (iblk m c 2 t) r0_4) (iblk m c 4 t)) (View.ld (iblk m c 3 t) r0_6) (ix2 r l)
      = flat8 (heads8 (part256 (ref m c)) (Qa m c)) (ix2 ⟨512 * t.val + r, by omega⟩ l) := by
  rw [flat8_apply, q_pay _ _ _ _ _ r l _ fun l => column m c t ht r _ ⟨256 + l, by omega⟩ fun x => w_q m c t ht x l]
  refine (window_norm (by norm_num) (fun y : Fin 512 => ref m c (ix3 ⟨(512 * t.val + r) / 4096, by omega⟩ ⟨(512 * t.val + r) % 4096, by omega⟩ ⟨256 + y.val, by omega⟩)) _ _ l _ _
    (fun x => o_whole m c t ht x l) (fun d => ?_) (g_q m c t ht l)).trans
    (heads8_apply (part256 (ref m c)) (Qa m c) ⟨(512 * t.val + r) / 4096, by omega⟩ ⟨(512 * t.val + r) % 4096, by omega⟩ ⟨l.val / 64, by omega⟩ ⟨l.val % 64, by omega⟩).symm
  rw [part256_apply]

/-- What point `t` stores of the keys is the reference's. -/
theorem k_point (c : Dev nD) (t : Fin cfg0.N) (ht : t.val < 32) (r : Fin 512) (l : Fin 512) :
    k0_pay5 (F := Ideal) (k0_pay1 (iblk m c 0 t) (iblk m c 1 t)) (View.ld (iblk m c 2 t) r0_7) (iblk m c 4 t) (View.ld (iblk m c 3 t) r0_8) (ix2 r l)
      = flat8 (heads8 (part768 (ref m c)) (Ka m c)) (ix2 ⟨512 * t.val + r, by omega⟩ l) := by
  rw [flat8_apply, k_pay _ _ _ _ r l _ fun l => column m c t ht r _ ⟨768 + l, by omega⟩ fun x => w_k m c t ht x l]
  refine (window_norm (by norm_num) (fun y : Fin 512 => ref m c (ix3 ⟨(512 * t.val + r) / 4096, by omega⟩ ⟨(512 * t.val + r) % 4096, by omega⟩ ⟨768 + y.val, by omega⟩)) _ _ l _ _
    (fun x => o_whole m c t ht x l) (fun d => ?_) (g_k m c t ht l)).trans
    (heads8_apply (part768 (ref m c)) (Ka m c) ⟨(512 * t.val + r) / 4096, by omega⟩ ⟨(512 * t.val + r) % 4096, by omega⟩ ⟨l.val / 64, by omega⟩ ⟨l.val % 64, by omega⟩).symm
  rw [part768_apply]

/-- What point `t` stores of the values is the reference's. -/
theorem v_point (c : Dev nD) (t : Fin cfg0.N) (ht : t.val < 32) (r : Fin 512) (l : Fin 512) :
    k0_pay10 (F := Ideal) (k0_pay1 (iblk m c 0 t) (iblk m c 1 t)) (View.ld (iblk m c 2 t) r0_11) (ix2 r l)
      = flat8 (part1280 (ref m c)) (ix2 ⟨512 * t.val + r, by omega⟩ l) := by
  rw [flat8_apply, v_pay, column m c t ht r _ ⟨1280 + l, by omega⟩ fun x => w_v m c t ht x l, part1280_apply]
  exact congrArg (fun y => ref m c (ix3 _ _ y)) (Fin.ext (by simp; omega))

/-- What point `t` stores of the memory queries is the reference's. -/
theorem m_point (c : Dev nD) (t : Fin cfg0.N) (ht : t.val < 32) (r : Fin 512) (l : Fin 256) :
    k0_pay12 (F := Ideal) (k0_pay1 (iblk m c 0 t) (iblk m c 1 t)) (View.ld (iblk m c 2 t) r0_12) (View.ld (iblk m c 4 t) r0_13) (View.ld (iblk m c 3 t) r0_14) (ix2 r l)
      = flat4 (heads4 (part1792 (ref m c)) (Ma m c)) (ix2 ⟨512 * t.val + r, by omega⟩ l) := by
  rw [flat4_apply, m_pay _ _ _ _ r l _ fun l => column m c t ht r _ ⟨1792 + l, by omega⟩ fun x => w_m m c t ht x l]
  refine (window_norm (by norm_num) (fun y : Fin 256 => ref m c (ix3 ⟨(512 * t.val + r) / 4096, by omega⟩ ⟨(512 * t.val + r) % 4096, by omega⟩ ⟨1792 + y.val, by omega⟩)) _ _ l _ _
    (fun x => o_low m c t ht x l) (fun d => ?_) (g_m m c t ht l)).trans
    (heads4_apply (part1792 (ref m c)) (Ma m c) ⟨(512 * t.val + r) / 4096, by omega⟩ ⟨(512 * t.val + r) % 4096, by omega⟩ ⟨l.val / 64, by omega⟩ ⟨l.val % 64, by omega⟩).symm
  rw [part1792_apply]

end Cert.ProjectIdeal.Proj

end
-- ==== Proof.ProjectRun.lean ====
/- Hand-written, untrusted: the projection of the prompt rows, what the run leaves in every result. -/
module

public import proofs.«01_k».proof.Proof.ProjectPoint

@[expose] public section

set_option maxRecDepth 16384

noncomputable section

open Idealize.ShloMosaic Idealize.ShloMosaic.TcCoe Idealize.SL.Sem
open scoped BigOperators

namespace Cert.ProjectIdeal.Proj

open Cert.ProjectIdeal Cert.ProjectIdeal.Gen Cert.Norm
open Cert.MemoryIdeal.Proj (ones ones_apply)
open Cert.ProjectRefIdeal.Proj (mixed mixed_apply heads8 heads8_apply heads4 heads4_apply partU partU_apply part256 part256_apply
  part768 part768_apply part1280 part1280_apply part1792 part1792_apply flat8 flat8_apply flat4 flat4_apply recent flatU flatU_apply blockSum blockSum_apply blockMean blockMean_apply)

variable (m : (ℓ : Loc nD τ sig) → Buf (Elt Ideal) ℓ)

/-! ## The arrays at the end -/

/-- A load of the whole row block is the block. -/
theorem rows_whole (a : Vec Ideal S512x1024 .f32) : View.ld a r0_0 = a := by
  funext i
  idx_vars i
  pointwise

/-- A load of the whole gain row is the row. -/
theorem gain_whole (a : Vec Ideal S1x1024 .f32) : View.ld a r0_1 = a := by
  funext i
  idx_vars i
  pointwise
  exact congrArg (fun z => a (ix2 z i1)) (Subsingleton.elim _ _)

/-- A load of the whole matrix of ones is the matrix. -/
theorem ones_whole (a : Vec Ideal S512x512 .bf16) : View.ld a r0_5 = a := by
  funext i
  idx_vars i
  pointwise

/-- The normalised rows that the later stages hold are those of the first. -/
theorem rows_held (a : Vec Ideal S512x1024 .f32) (b : Vec Ideal S1x1024 .f32) (w : Vec Ideal S1024x2048 .bf16) (g : Vec Ideal S1x2048 .f32) (o : Vec Ideal S512x512 .bf16) : k0_pay13 (F := Ideal) a b w g o = k0_pay1 (F := Ideal) a b := by
  unfold k0_pay13
  rw [rows_whole, gain_whole]

/-- What point `t` stores of the pooling input, as rows laid out flat. -/
theorem u_flat (c : Dev nD) (t : Fin cfg0.N) (ht : t.val < 32) (r : Fin 512) (l : Fin 256) :
    k0_pay2 (F := Ideal) (iblk m c 0 t) (iblk m c 1 t) (View.ld (iblk m c 2 t) r0_2) (ix2 r l) = flatU (partU (ref m c)) (ix2 ⟨512 * t.val + r, by omega⟩ l) :=
  (u_point m c t ht r l).trans (flatU_apply (partU (ref m c)) ⟨512 * t.val + r, by omega⟩ l).symm

/-- After the region the pooling input is the reference's. -/
theorem final5 (c : Dev nD) : (dats m 0 c).arrAt 5 (cfgs 0).N = flatU (partU (ref m c)) := by
  refine (dats m 0 c).arrAt_eq_of_covers 5 _ (by decide +kernel) fun t _ y => ?_
  blk_simp
  rw [after0_5]
  frame_out
  have ht := (idx t).2.2.2.2.2.2.2.2.2.2.2.2.2
  idx_vars y
  refine (u_flat m c t ht y0 y1).trans (congrArg _ ?_)
  blk_ext [idx t]

/-- After the region the queries are the reference's. -/
theorem final6 (c : Dev nD) : (dats m 0 c).arrAt 6 (cfgs 0).N = flat8 (heads8 (part256 (ref m c)) (Qa m c)) := by
  refine (dats m 0 c).arrAt_eq_of_covers 6 _ (by decide +kernel) fun t _ y => ?_
  blk_simp
  rw [after0_6]
  frame_out
  have ht := (idx t).2.2.2.2.2.2.2.2.2.2.2.2.2
  idx_vars y
  refine (q_point m c t ht y0 y1).trans (congrArg _ ?_)
  blk_ext [idx t]

/-- After the region the keys are the reference's. -/
theorem final7 (c : Dev nD) : (dats m 0 c).arrAt 7 (cfgs 0).N = flat8 (heads8 (part768 (ref m c)) (Ka m c)) := by
  refine (dats m 0 c).arrAt_eq_of_covers 7 _ (by decide +kernel) fun t _ y => ?_
  blk_simp
  rw [after0_7]
  frame_out
  have ht := (idx t).2.2.2.2.2.2.2.2.2.2.2.2.2
  idx_vars y
  rw [rows_held]
  refine (k_point m c t ht y0 y1).trans (congrArg _ ?_)
  blk_ext [idx t]

/-- After the region the values are the reference's. -/
theorem final10 (c : Dev nD) : (dats m 0 c).arrAt 10 (cfgs 0).N = flat8 (part1280 (ref m c)) := by
  refine (dats m 0 c).arrAt_eq_of_covers 10 _ (by decide +kernel) fun t _ y => ?_
  blk_simp
  rw [after0_10]
  frame_out
  have ht := (idx t).2.2.2.2.2.2.2.2.2.2.2.2.2
  idx_vars y
  rw [rows_held]
  refine (v_point m c t ht y0 y1).trans (congrArg _ ?_)
  blk_ext [idx t]

/-- After the region the memory queries are the reference's. -/
theorem final12 (c : Dev nD) : (dats m 0 c).arrAt 12 (cfgs 0).N = flat4 (heads4 (part1792 (ref m c)) (Ma m c)) := by
  refine (dats m 0 c).arrAt_eq_of_covers 12 _ (by decide +kernel) fun t _ y => ?_
  blk_simp
  rw [after0_12]
  frame_out
  have ht := (idx t).2.2.2.2.2.2.2.2.2.2.2.2.2
  idx_vars y
  rw [rows_held]
  refine (m_point m c t ht y0 y1).trans (congrArg _ ?_)
  blk_ext [idx t]

/-! ## The means of the key blocks -/

/-- The means, one row per block. -/
def means (k : FVec Ideal S4x4096x8x64 .f32) : FVec Ideal S64x1x512 .f32 := fun i =>
  let n : Fin 64 := i 0
  blockMean (blockSum k) (ix3 ⟨n.val / 16, by omega⟩ ⟨n.val % 16, by omega⟩ (i 2))

/-- The block means as the call lays them out, cut by sequence, are the reference's. -/
theorem means_join (k : FVec Ideal S4x4096x8x64 .f32) : shapeCast S4x16x512 (means k) shapeCasts_S64x1x512_S4x16x512 = blockMean (blockSum k) := by
  funext i
  idx_vars i
  refine Eq.trans (b := means k (ix3 ⟨i0.val * 16 + i1, by omega⟩ 0 i2)) ?_ ?_
  · generalize means k = f
    pointwise
  · unfold means
    refine congrArg (blockMean (blockSum k)) (funext fun k => ?_)
    fin_cases k <;> apply Fin.ext <;> simp <;> omega

/-- A block's mean, over its 256 rows laid out flat. -/
theorem mean_row (k : FVec Ideal S4x4096x8x64 .f32) (n : Fin 64) (l : Fin 512) :
    means k (ix3 n 0 l) = Ideal.div (∑ s : Fin 256, flat8 k (ix2 ⟨256 * n.val + s, by omega⟩ l)) (Ideal.ofBits .f32 0x43800000#32) := by
  refine (blockMean_apply (blockSum k) ⟨n.val / 16, by omega⟩ ⟨n.val % 16, by omega⟩ l).trans ?_
  rw [blockSum_apply]
  refine congrArg (fun a => Ideal.div a (Ideal.ofBits .f32 0x43800000#32)) (Finset.sum_congr rfl fun s _ => ?_)
  rw [flat8_apply]
  refine congrArg k (funext fun j => ?_)
  fin_cases j <;> apply Fin.ext <;> simp <;> omega

/-- The mean over the first half of a point's rows. -/
theorem mean0 (h : FVec Ideal S512x1024 .bf16) (w : Vec Ideal S1024x512 .bf16) (o : Vec Ideal S512x512 .bf16) (g : Vec Ideal S1x512 .f32)
    (a b : Fin 1) (l : Fin 512) : k0_pay7 (F := Ideal) h w o g (ix3 a b l)
      = Ideal.div (∑ s : Fin 256, k0_pay5 (F := Ideal) h w o g (ix2 ⟨s, by omega⟩ l)) (Ideal.ofBits .f32 0x43800000#32) := by
  unfold k0_pay7
  generalize k0_pay5 (F := Ideal) h w o g = z
  pointwise

/-- The mean over the second half of a point's rows. -/
theorem mean1 (h : FVec Ideal S512x1024 .bf16) (w : Vec Ideal S1024x512 .bf16) (o : Vec Ideal S512x512 .bf16) (g : Vec Ideal S1x512 .f32)
    (a b : Fin 1) (l : Fin 512) : k0_pay9 (F := Ideal) (k0_pay8 h w o g) (ix3 a b l)
      = Ideal.div (∑ s : Fin 256, k0_pay5 (F := Ideal) h w o g (ix2 ⟨256 + s, by omega⟩ l)) (Ideal.ofBits .f32 0x43800000#32) := by
  unfold k0_pay9 k0_pay8
  generalize k0_pay5 (F := Ideal) h w o g = z
  pointwise

/-- The mean over rows of point `t`'s keys is the mean of a block of the reference's. -/
theorem mean_point (c : Dev nD) (t : Fin cfg0.N) (ht : t.val < 32) (j : ℕ) (hj : j < 2) (o : ℕ) (ho : o = 256 * j) (l : Fin 512) :
    Ideal.div (∑ s : Fin 256, k0_pay5 (F := Ideal) (k0_pay1 (iblk m c 0 t) (iblk m c 1 t)) (View.ld (iblk m c 2 t) r0_7) (iblk m c 4 t) (View.ld (iblk m c 3 t) r0_8) (ix2 ⟨o + s, by omega⟩ l))
        (Ideal.ofBits .f32 0x43800000#32)
      = means (heads8 (part768 (ref m c)) (Ka m c)) (ix3 ⟨2 * t.val + j, by omega⟩ 0 l) := by
  rw [mean_row]
  refine congrArg (fun a => Ideal.div a (Ideal.ofBits .f32 0x43800000#32)) (Finset.sum_congr rfl fun s _ => ?_)
  rw [k_point m c t ht]
  exact congrArg (fun r => flat8 (heads8 (part768 (ref m c)) (Ka m c)) (ix2 r l)) (Fin.ext (by simp; omega))

/-- The mean of the first 256 keys of point `t` is the reference's. -/
theorem mean_first (c : Dev nD) (t : Fin cfg0.N) (ht : t.val < 32) (l : Fin 512) :
    Ideal.div (∑ s : Fin 256, k0_pay5 (F := Ideal) (k0_pay1 (iblk m c 0 t) (iblk m c 1 t)) (View.ld (iblk m c 2 t) r0_7) (iblk m c 4 t) (View.ld (iblk m c 3 t) r0_8) (ix2 ⟨s, by omega⟩ l))
        (Ideal.ofBits .f32 0x43800000#32)
      = means (heads8 (part768 (ref m c)) (Ka m c)) (ix3 ⟨2 * t.val, by omega⟩ 0 l) := by
  refine Eq.trans ?_ (mean_point m c t ht 0 (by norm_num) 0 rfl l)
  refine congrArg (fun a => Ideal.div a (Ideal.ofBits .f32 0x43800000#32)) (Finset.sum_congr rfl fun s _ => ?_)
  exact congrArg (fun r => k0_pay5 (F := Ideal) (k0_pay1 (iblk m c 0 t) (iblk m c 1 t)) (View.ld (iblk m c 2 t) r0_7) (iblk m c 4 t) (View.ld (iblk m c 3 t) r0_8) (ix2 r l)) (Fin.ext (by simp))

set_option maxHeartbeats 2000000 in
/-- After the region the block means are those of the reference's keys. -/
theorem final9 (c : Dev nD) : (dats m 0 c).arrAt 9 (cfgs 0).N = means (heads8 (part768 (ref m c)) (Ka m c)) := by
  refine (dats m 0 c).arrAt_eq_of_covers 9 _ (by decide +kernel) fun t _ y => ?_
  blk_simp
  rw [after0_9]
  have ht := (idx t).2.2.2.2.2.2.2.2.2.2.2.2.2
  canon_tiles x h
  case piece0 =>
    rw [rows_held, ones_whole]
    idx_vars x
    refine (mean1 _ _ _ _ x0 x1 x2).trans ((mean_point m c t ht 1 (by norm_num) 256 rfl x2).trans (congrArg _ ?_))
    blk_ext [idx t]
  case piece1 =>
    rw [rows_held, ones_whole]
    idx_vars x
    refine (mean0 _ _ _ _ x0 x1 x2).trans ((mean_first m c t ht x2).trans (congrArg _ ?_))
    blk_ext [idx t]

/-- The heads of the joined rows. -/
theorem unflat8 (a : FVec Ideal S4x4096x8x64 .f32) : shapeCast S4x4096x8x64 (flat8 a) shapeCasts_S16384x512_S4x4096x8x64 = a := by
  funext i
  idx_vars i
  refine Eq.trans (b := flat8 a (ix2 ⟨i0.val * 4096 + i1, by omega⟩ ⟨i2.val * 64 + i3, by omega⟩)) ?_ ?_
  · generalize flat8 a = f
    pointwise
  · rw [flat8_apply]
    refine congrArg a (funext fun k => ?_)
    fin_cases k <;> apply Fin.ext <;> simp <;> omega

/-- Laying the sequences' rows out flat and cutting them again gives the array back. -/
theorem unflatU (a : FVec Ideal S4x4096x256 .f32) : shapeCast S4x4096x256 (flatU a) shapeCasts_S16384x256_S4x4096x256 = a := by
  funext i
  idx_vars i
  refine Eq.trans (b := flatU a (ix2 ⟨i0.val * 4096 + i1, by omega⟩ i2)) ?_ ?_
  · generalize flatU a = f
    pointwise
  · rw [flatU_apply]
    refine congrArg a (funext fun k => ?_)
    fin_cases k <;> apply Fin.ext <;> simp <;> omega

/-- The pooling state returned is the reference's. -/
theorem tail24 (c : Dev nD) : Pipeline.afterTail₀ cfgs (dats m) 0 (V0 m) [hostOps1] c main_v24 = recent (partU (ref m c)) := by
  unfold Pipeline.afterTail₀
  simp only [hostOps1, List.flatten_cons, List.flatten_nil, List.append_nil]
  after_results
  exact (congrArg (fun A : FVec Ideal S16384x256 .f32 => recent (shapeCast S4x4096x256 A shapeCasts_S16384x256_S4x4096x256))
    ((Pipeline.withArrays_arr spec0 (by decide) c (V0 m c) (fun w => (dats m 0 c).arrAt w (cfgs 0).N) 5).trans (final5 m c))).trans
      (congrArg (fun b : FVec Ideal S4x4096x256 .f32 => recent b) (unflatU _))

/-- The keys returned are the reference's. -/
theorem tail25 (c : Dev nD) : Pipeline.afterTail₀ cfgs (dats m) 0 (V0 m) [hostOps1] c main_v25 = heads8 (part768 (ref m c)) (Ka m c) := by
  unfold Pipeline.afterTail₀
  simp only [hostOps1, List.flatten_cons, List.flatten_nil, List.append_nil]
  after_results
  exact (congrArg (fun A : FVec Ideal S16384x512 .f32 => shapeCast S4x4096x8x64 A shapeCasts_S16384x512_S4x4096x8x64)
    ((Pipeline.withArrays_arr spec0 (by decide) c (V0 m c) (fun w => (dats m 0 c).arrAt w (cfgs 0).N) 7).trans (final7 m c))).trans (unflat8 _)

/-- The values returned are the reference's. -/
theorem tail26 (c : Dev nD) : Pipeline.afterTail₀ cfgs (dats m) 0 (V0 m) [hostOps1] c main_v26 = part1280 (ref m c) := by
  unfold Pipeline.afterTail₀
  simp only [hostOps1, List.flatten_cons, List.flatten_nil, List.append_nil]
  after_results
  exact (congrArg (fun A : FVec Ideal S16384x512 .f32 => shapeCast S4x4096x8x64 A shapeCasts_S16384x512_S4x4096x8x64)
    ((Pipeline.withArrays_arr spec0 (by decide) c (V0 m c) (fun w => (dats m 0 c).arrAt w (cfgs 0).N) 10).trans (final10 m c))).trans (unflat8 _)

/-- The block means returned are those of the reference. -/
theorem tail27 (c : Dev nD) : Pipeline.afterTail₀ cfgs (dats m) 0 (V0 m) [hostOps1] c main_v27 = blockMean (blockSum (heads8 (part768 (ref m c)) (Ka m c))) := by
  unfold Pipeline.afterTail₀
  simp only [hostOps1, List.flatten_cons, List.flatten_nil, List.append_nil]
  after_results
  exact (congrArg (fun A : FVec Ideal S64x1x512 .f32 => shapeCast S4x16x512 A shapeCasts_S64x1x512_S4x16x512)
    ((Pipeline.withArrays_arr spec0 (by decide) c (V0 m c) (fun w => (dats m 0 c).arrAt w (cfgs 0).N) 9).trans (final9 m c))).trans (means_join _)

/-- The run: every result at the reference's stages of the arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v25) = heads8 (part768 (ref m c)) (Ka m c)
      ∧ r.2.mem ((c.tc : Thread nD τ).loc main_v26) = part1280 (ref m c)
      ∧ r.2.mem ((c.tc : Thread nD τ).loc main_v24) = recent (partU (ref m c))
      ∧ r.2.mem ((c.tc : Thread nD τ).loc main_v22_0) = flatU (partU (ref m c))
      ∧ r.2.mem ((c.tc : Thread nD τ).loc main_v22_1) = flat8 (heads8 (part256 (ref m c)) (Qa m c))
      ∧ r.2.mem ((c.tc : Thread nD τ).loc main_v27) = blockMean (blockSum (heads8 (part768 (ref m c)) (Ka m c)))
      ∧ r.2.mem ((c.tc : Thread nD τ).loc main_v22_7) = flat4 (heads4 (part1792 (ref m c)) (Ma m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    have rest := fun (b : Ref sig .tc) hb => (h c).2 b hb
    ⟨(rest main_v25 (Pipeline.mem_restRefs_of _ (by decide) (by decide))).trans (tail25 m c),
      (rest main_v26 (Pipeline.mem_restRefs_of _ (by decide) (by decide))).trans (tail26 m c),
      (rest main_v24 (Pipeline.mem_restRefs_of _ (by decide) (by decide))).trans (tail24 m c),
      ((h c).1 5).trans (final5 m c),
      ((h c).1 6).trans (final6 m c),
      (rest main_v27 (Pipeline.mem_restRefs_of _ (by decide) (by decide))).trans (tail27 m c),
      ((h c).1 12).trans (final12 m c),
      (rest main_arg0 (Pipeline.mem_restRefs_of _ (by decide) (by decide))).trans (W_main_arg0 m (dats m) c),
      (rest main_arg1 (Pipeline.mem_restRefs_of _ (by decide) (by decide))).trans (W_main_arg1 m (dats m) c),
      (rest main_arg2 (Pipeline.mem_restRefs_of _ (by decide) (by decide))).trans (W_main_arg2 m (dats m) c),
      (rest main_arg3 (Pipeline.mem_restRefs_of _ (by decide) (by decide))).trans (W_main_arg3 m (dats m) c),
      (rest main_arg4 (Pipeline.mem_restRefs_of _ (by decide) (by decide))).trans (W_main_arg4 m (dats m) c),
      (rest main_arg5 (Pipeline.mem_restRefs_of _ (by decide) (by decide))).trans (W_main_arg5 m (dats m) c)⟩) (run_main m ρ)

end Cert.ProjectIdeal.Proj

end
-- ==== Proof.OutprojRef.lean ====
/- Hand-written, untrusted: the reference output projection with the residual and the second norm, stage by stage, each
   stage read at an index. -/
module

public import proofs.«01_k».proof.Proof.Gen.OutprojRefIdeal.Run
public import proofs.«01_k».proof.Proof.Norm

@[expose] public section

set_option maxRecDepth 16384

noncomputable section

open Idealize.ShloMosaic Idealize.ShloMosaic.TcCoe Idealize.SL.Sem
open scoped BigOperators

namespace Cert.OutprojRefIdeal.Proj

open Cert.OutprojRefIdeal Cert.OutprojRefIdeal.Gen Cert.Norm

/-- A sum over the layer's width is the sum over the three mixers' lanes. -/
theorem sum_mixers (f : Fin 1024 → EReal) :
    ∑ j, f j = (∑ j : Fin 256, f ⟨j, by omega⟩ + ∑ j : Fin 512, f ⟨256 + j, by omega⟩) + ∑ j : Fin 256, f ⟨768 + j, by omega⟩ := by
  refine (Fin.sum_univ_add (a := 768) (b := 256) f).trans ?_
  congr 1
  exact Fin.sum_univ_add (a := 256) (b := 512) fun j => f ⟨j, by omega⟩

/-- The three mixers' outputs, side by side. -/
def joined (p : FVec Ideal S16384x256 .f32) (a : FVec Ideal S16384x512 .f32) (o : FVec Ideal S16384x256 .f32) :
    FVec Ideal S16384x1024 .f32 :=
  concatenate S16384x1024 1 [⟨S16384x256, p⟩, ⟨S16384x512, a⟩, ⟨S16384x256, o⟩]
    concatenates_S16384x256_S16384x512_S16384x256_S16384x1024_d1

/-- The first 256 lanes are the pooling mixer's. -/
theorem joined_pool (p : FVec Ideal S16384x256 .f32) (a : FVec Ideal S16384x512 .f32) (o : FVec Ideal S16384x256 .f32)
    (n : Fin 16384) (j : Fin 256) : joined p a o (ix2 n ⟨j, by omega⟩) = p (ix2 n j) := by
  pointwise [joined]

/-- The next 512 lanes are the attention's. -/
theorem joined_attn (p : FVec Ideal S16384x256 .f32) (a : FVec Ideal S16384x512 .f32) (o : FVec Ideal S16384x256 .f32)
    (n : Fin 16384) (j : Fin 512) : joined p a o (ix2 n ⟨256 + j, by omega⟩) = a (ix2 n j) := by
  pointwise [joined]

/-- The last 256 lanes are the memory attention's. -/
theorem joined_mem (p : FVec Ideal S16384x256 .f32) (a : FVec Ideal S16384x512 .f32) (o : FVec Ideal S16384x256 .f32)
    (n : Fin 16384) (j : Fin 256) : joined p a o (ix2 n ⟨768 + j, by omega⟩) = o (ix2 n j) := by
  pointwise [joined]
  rw [dif_neg (by omega), dif_neg (by omega)]
  exact congrArg (fun y => o (ix2 n y)) (Fin.ext (by simp; omega))

/-- The residual rows plus the joined rows' product with the output weights. -/
def added (x h : FVec Ideal S16384x1024 .f32) (w : FVec Ideal S1024x1024 .f32) : FVec Ideal S16384x1024 .f32 :=
  addf x (Host.dotGeneral dot_S16384x1024_S1024x1024_S16384x1024_1_0_0_1_n_n none h w)

/-- A row's entry plus its product with the weights. -/
theorem added_apply (x h : FVec Ideal S16384x1024 .f32) (w : FVec Ideal S1024x1024 .f32) (n : Fin 16384) (l : Fin 1024) :
    added x h w (ix2 n l) = x (ix2 n l) + ∑ j : Fin 1024, h (ix2 n j) * w (ix2 j l) := by
  pointwise [added]

/-- The rows after the mixers: the residual plus the output projection of the joined mixers. -/
def rows (p : FVec Ideal S16384x256 .f32) (a : FVec Ideal S16384x512 .f32) (o : FVec Ideal S16384x256 .f32)
    (x : FVec Ideal S16384x1024 .f32) (w : FVec Ideal S1024x1024 .f32) : FVec Ideal S16384x1024 .f32 :=
  added x (joined p a o) w

/-- They are the residual plus one product per mixer. -/
theorem rows_apply (p : FVec Ideal S16384x256 .f32) (a : FVec Ideal S16384x512 .f32) (o : FVec Ideal S16384x256 .f32)
    (x : FVec Ideal S16384x1024 .f32) (w : FVec Ideal S1024x1024 .f32) (n : Fin 16384) (l : Fin 1024) :
    rows p a o x w (ix2 n l) = x (ix2 n l) + ∑ j : Fin 256, p (ix2 n j) * w (ix2 ⟨j, by omega⟩ l)
      + ∑ j : Fin 512, a (ix2 n j) * w (ix2 ⟨256 + j, by omega⟩ l) + ∑ j : Fin 256, o (ix2 n j) * w (ix2 ⟨768 + j, by omega⟩ l) := by
  rw [rows, added_apply, sum_mixers]
  simp only [joined_pool, joined_attn, joined_mem, add_assoc]

/-- The sum of squares of each row. -/
def sumsq (y : FVec Ideal S16384x1024 .f32) : FVec Ideal S16384 .f32 :=
  Host.reduceAdd (mulf y y) (constant S_ .f32 0x00000000#32) reducesTo_S16384x1024_S16384_d1 h_S_

/-- A row's sum of squares. -/
theorem sumsq_apply (y : FVec Ideal S16384x1024 .f32) (n : Fin 16384) :
    sumsq y (ix1 n) = ∑ i : Fin 1024, y (ix2 n i) * y (ix2 n i) := by
  pointwise [sumsq]

/-- The reciprocal root mean square of each row. -/
def scale (s : FVec Ideal S16384 .f32) : FVec Ideal S16384x1 .f32 :=
  Host.rsqrt (addf (Host.divf (broadcastInDim S16384x1 ![0] bcast_S16384_S16384x1_0 s)
      (broadcastInDim S16384x1 ![] bcast_S_S16384x1 (constant S_ .f32 0x44800000#32)))
    (broadcastInDim S16384x1 ![] bcast_S_S16384x1 (constant S_ .f32 0x358637BD#32)))

/-- A row's inverse root mean square. -/
theorem scale_apply (s : FVec Ideal S16384 .f32) (n : Fin 16384) :
    scale s (ix2 n 0) = Ideal.rsqrt (Ideal.div (s (ix1 n)) width + eps) := by
  pointwise [scale]

/-- Rows times their scale, times the gain. -/
def scaled (y : FVec Ideal S16384x1024 .f32) (k : FVec Ideal S16384x1 .f32) (g : FVec Ideal S1024 .f32) : FVec Ideal S16384x1024 .f32 :=
  mulf (mulf y (broadcastInDim S16384x1024 ![0, 1] bcast_S16384x1_S16384x1024_0_1 k))
    (broadcastInDim S16384x1024 ![0, 1] bcast_S1x1024_S16384x1024_0_1 (broadcastInDim S1x1024 ![1] bcast_S1024_S1x1024_1 g))

/-- A row's entry, by the row's factor and the gain. -/
theorem scaled_apply (y : FVec Ideal S16384x1024 .f32) (k : FVec Ideal S16384x1 .f32) (g : FVec Ideal S1024 .f32)
    (n : Fin 16384) (i : Fin 1024) : scaled y k g (ix2 n i) = y (ix2 n i) * k (ix2 n 0) * g (ix1 i) := by
  pointwise [scaled]

/-- The rows over their root mean square, times the gain. -/
def normed (y : FVec Ideal S16384x1024 .f32) (g : FVec Ideal S1024 .f32) : FVec Ideal S16384x1024 .f32 := scaled y (scale (sumsq y)) g

/-- The normalised rows at an entry are the row's RMS norm. -/
theorem normed_apply (y : FVec Ideal S16384x1024 .f32) (g : FVec Ideal S1024 .f32) (n : Fin 16384) (i : Fin 1024) :
    normed y g (ix2 n i) = rmsRow (fun j => y (ix2 n j)) (fun j => g (ix1 j)) i := by
  rw [normed, scaled_apply, scale_apply, sumsq_apply, rmsRow]

/-- The rows after the mixers, of device `c`'s arguments. -/
abbrev ref (m : (ℓ : Loc nD τ sig) → Buf (Elt Ideal) ℓ) (c : Dev nD) : FVec Ideal S16384x1024 .f32 :=
  rows (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The reference's run: the rows and their norm at their stages, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = ref m c
      ∧ r.2.mem ((c.tc : Thread nD τ).loc main_v15) = normed (ref m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.OutprojRefIdeal.Value.run m ρ

end Cert.OutprojRefIdeal.Proj

end
-- ==== Proof.OutprojPoint.lean ====
/- Hand-written, untrusted: the output projection call, block by block. -/
module

public import proofs.«01_k».proof.Proof.Gen.OutprojIdeal.Frame
public import proofs.«01_k».proof.Proof.OutprojRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutprojIdeal.Proj

open Cert.OutprojIdeal Cert.OutprojIdeal.Gen Cert.Norm

variable (m : (ℓ : Loc nD τ sig) → Buf (Elt Ideal) ℓ)

/-! ## What one grid point stores -/

/-- The residual plus one product per mixer, at a row and a lane. -/
theorem rows_pay (x : Vec Ideal S512x1024 .f32) (p : Vec Ideal S512x256 .f32) (wp : Vec Ideal S256x1024 .bf16)
    (a : Vec Ideal S512x512 .f32) (wa : Vec Ideal S512x1024 .bf16) (o : Vec Ideal S512x256 .f32) (wo : Vec Ideal S256x1024 .bf16)
    (r : Fin 512) (l : Fin 1024) :
    k0_pay2 (F := Ideal) x p wp a wa o wo (ix2 r l) = x (ix2 r l) + ∑ j : Fin 256, p (ix2 r j) * wp (ix2 j l)
      + ∑ j : Fin 512, a (ix2 r j) * wa (ix2 j l) + ∑ j : Fin 256, o (ix2 r j) * wo (ix2 j l) := by
  pointwise [k0_pay2]

/-- The norm of the rows stored, at a row and a lane. -/
theorem norm_pay (x : Vec Ideal S512x1024 .f32) (p : Vec Ideal S512x256 .f32) (wp : Vec Ideal S256x1024 .bf16)
    (a : Vec Ideal S512x512 .f32) (wa : Vec Ideal S512x1024 .bf16) (o : Vec Ideal S512x256 .f32) (wo : Vec Ideal S256x1024 .bf16)
    (g : Vec Ideal S1x1024 .f32) (r : Fin 512) (l : Fin 1024) (y : Fin 1024 → EReal)
    (hy : ∀ l, k0_pay2 (F := Ideal) x p wp a wa o wo (ix2 r l) = y l) :
    k0_pay4 (F := Ideal) (k0_pay3 x p wp a wa o wo g) (ix2 r l) = rmsRow y (fun i => g (ix2 0 i)) l := by
  unfold k0_pay4 k0_pay3
  generalize k0_pay2 (F := Ideal) x p wp a wa o wo = h at hy ⊢
  pointwise
  simp only [hy]
  rfl

/-! ## The arrays the region finds -/

abbrev Pa (c : Dev nD) : FVec Ideal S16384x256 .f32 := m ((c : Thread nD τ).loc main_arg0)
abbrev Aa (c : Dev nD) : FVec Ideal S16384x512 .f32 := m ((c : Thread nD τ).loc main_arg1)
abbrev Oa (c : Dev nD) : FVec Ideal S16384x256 .f32 := m ((c : Thread nD τ).loc main_arg2)
abbrev Xa (c : Dev nD) : FVec Ideal S16384x1024 .f32 := m ((c : Thread nD τ).loc main_arg3)
abbrev Wa (c : Dev nD) : FVec Ideal S1024x1024 .f32 := m ((c : Thread nD τ).loc main_arg4)
abbrev Na (c : Dev nD) : FVec Ideal S1024 .f32 := m ((c : Thread nD τ).loc main_arg5)

/-- The region finds the output weights in bf16. -/
theorem V_weights (c : Dev nD) : V m c main_v0 = (truncf .bf16 (Wa m c) bitsLt_bf16_f32 : FVec Ideal S1024x1024 .bf16) := by
  unfold V V0
  simp only [hostOps0, List.flatten_cons, List.flatten_nil, List.append_nil, List.cons_append, List.nil_append]
  after_results <;> rfl

/-- The gain as a row. -/
def unrow (g : FVec Ideal S1024 .f32) : FVec Ideal S1x1024 .f32 := shapeCast S1x1024 g shapeCasts_S1024_S1x1024

/-- A gain as a row, at an entry. -/
theorem unrow_apply (g : FVec Ideal S1024 .f32) (i : Fin 1024) : unrow g (ix2 0 i) = g (ix1 i) := by
  pointwise [unrow]

/-- The region finds the gain as a row. -/
theorem V_norm (c : Dev nD) : V m c main_v15 = unrow (Na m c) := by
  unfold V V0 unrow
  simp only [hostOps0, List.flatten_cons, List.flatten_nil, List.append_nil, List.cons_append, List.nil_append]
  after_results <;> rfl

/-- Every window's block index at a grid point: thirty-two blocks of 512 rows. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_8.index t = ![t.val, 0]
    ∧ win0_9.index t = ![t.val, 0]
    ∧ t.val < 32 :=
  (by decide +kernel : ∀ t : Fin grid0.N, _)

/-- The pooling mixer's block of point `t` holds the point's rows. -/
theorem p_block (c : Dev nD) (t : Fin cfg0.N) (ht : t.val < 32) (r : Fin 512) (j : Fin 256) :
    iblk m c 0 t (ix2 r j) = Pa m c (ix2 ⟨512 * t.val + r, by omega⟩ j) := by
  blk_ext [iblk, V, idx t]

/-- The attention's block of point `t` holds the point's rows. -/
theorem a_block (c : Dev nD) (t : Fin cfg0.N) (ht : t.val < 32) (r : Fin 512) (j : Fin 512) :
    iblk m c 1 t (ix2 r j) = Aa m c (ix2 ⟨512 * t.val + r, by omega⟩ j) := by
  blk_ext [iblk, V, idx t]

/-- The memory mixer's block of point `t` holds the point's rows. -/
theorem o_block (c : Dev nD) (t : Fin cfg0.N) (ht : t.val < 32) (r : Fin 512) (j : Fin 256) :
    iblk m c 2 t (ix2 r j) = Oa m c (ix2 ⟨512 * t.val + r, by omega⟩ j) := by
  blk_ext [iblk, V, idx t]

/-- The row block of point `t` holds the point's rows. -/
theorem x_block (c : Dev nD) (t : Fin cfg0.N) (ht : t.val < 32) (r : Fin 512) (l : Fin 1024) :
    iblk m c 3 t (ix2 r l) = Xa m c (ix2 ⟨512 * t.val + r, by omega⟩ l) := by
  blk_ext [iblk, V, idx t]

/-- The weights are whole at every point. -/
theorem w_block (c : Dev nD) (t : Fin cfg0.N) (ht : t.val < 32) (x l : Fin 1024) :
    iblk m c 4 t (ix2 x l) = Wa m c (ix2 x l) := by
  have e := V_weights m c
  blk_point [iblk, e, idx t]

/-- The norm's gain is whole at every point. -/
theorem n_block (c : Dev nD) (t : Fin cfg0.N) (ht : t.val < 32) (l : Fin 1024) :
    iblk m c 5 t (ix2 0 l) = Na m c (ix1 l) := by
  have e := V_norm m c
  refine Eq.trans ?_ (unrow_apply (Na m c) l)
  generalize unrow (Na m c) = g at e ⊢
  blk_point [iblk, e, idx t]

/-! The weights' rows of the three mixers. -/

/-- The rows of the weights for the pooling mixer. -/
theorem w_pool (c : Dev nD) (t : Fin cfg0.N) (ht : t.val < 32) (j : Fin 256) (l : Fin 1024) :
    View.ld (iblk m c 4 t) r0_2 (ix2 j l) = Wa m c (ix2 ⟨j, by omega⟩ l) := by
  pointwise
  exact w_block m c t ht ⟨j, by omega⟩ l

/-- The rows of the weights for the attention. -/
theorem w_attn (c : Dev nD) (t : Fin cfg0.N) (ht : t.val < 32) (j : Fin 512) (l : Fin 1024) :
    View.ld (iblk m c 4 t) r0_4 (ix2 j l) = Wa m c (ix2 ⟨256 + j, by omega⟩ l) := by
  pointwise
  exact w_block m c t ht ⟨256 + j, by omega⟩ l

/-- The rows of the weights for the memory mixer. -/
theorem w_mem (c : Dev nD) (t : Fin cfg0.N) (ht : t.val < 32) (j : Fin 256) (l : Fin 1024) :
    View.ld (iblk m c 4 t) r0_5 (ix2 j l) = Wa m c (ix2 ⟨768 + j, by omega⟩ l) := by
  pointwise
  exact w_block m c t ht ⟨768 + j, by omega⟩ l

/-- The reference's rows of the argument arrays, and their norm. -/
abbrev rows (c : Dev nD) : FVec Ideal S16384x1024 .f32 :=
  Cert.OutprojRefIdeal.Proj.rows (Pa m c) (Aa m c) (Oa m c) (Xa m c) (Wa m c)

/-- The normalised rows as the reference has them. -/
abbrev normed (c : Dev nD) : FVec Ideal S16384x1024 .f32 := Cert.OutprojRefIdeal.Proj.normed (rows m c) (Na m c)

/-- Point `t`'s rows are the reference's. -/
theorem rows_point (c : Dev nD) (t : Fin cfg0.N) (ht : t.val < 32) (r : Fin 512) (l : Fin 1024) :
    k0_pay2 (F := Ideal) (iblk m c 3 t) (iblk m c 0 t) (View.ld (iblk m c 4 t) r0_2) (iblk m c 1 t) (View.ld (iblk m c 4 t) r0_4)
        (iblk m c 2 t) (View.ld (iblk m c 4 t) r0_5) (ix2 r l)
      = rows m c (ix2 ⟨512 * t.val + r, by omega⟩ l) := by
  refine (rows_pay _ _ _ _ _ _ _ r l).trans (Eq.trans ?_
    (Cert.OutprojRefIdeal.Proj.rows_apply (Pa m c) (Aa m c) (Oa m c) (Xa m c) (Wa m c) ⟨512 * t.val + r, by omega⟩ l).symm)
  exact congrArg₂ (· + ·) (congrArg₂ (· + ·) (congrArg₂ (· + ·) (x_block m c t ht r l)
    (Finset.sum_congr rfl fun j _ => congrArg₂ (· * ·) (p_block m c t ht r j) (w_pool m c t ht j l)))
    (Finset.sum_congr rfl fun j _ => congrArg₂ (· * ·) (a_block m c t ht r j) (w_attn m c t ht j l)))
    (Finset.sum_congr rfl fun j _ => congrArg₂ (· * ·) (o_block m c t ht r j) (w_mem m c t ht j l))

/-- Point `t`'s normalised rows are the reference's. -/
theorem norm_point (c : Dev nD) (t : Fin cfg0.N) (ht : t.val < 32) (r : Fin 512) (l : Fin 1024) :
    k0_pay4 (F := Ideal) (k0_pay3 (iblk m c 3 t) (iblk m c 0 t) (View.ld (iblk m c 4 t) r0_2) (iblk m c 1 t) (View.ld (iblk m c 4 t) r0_4)
        (iblk m c 2 t) (View.ld (iblk m c 4 t) r0_5) (iblk m c 5 t)) (ix2 r l)
      = normed m c (ix2 ⟨512 * t.val + r, by omega⟩ l) := by
  rw [norm_pay _ _ _ _ _ _ _ _ r l _ fun l => rows_point m c t ht r l, normed, Cert.OutprojRefIdeal.Proj.normed_apply]
  congr 1
  exact funext fun i => n_block m c t ht i

/-! A load of a whole block is the block. -/

/-- A load of a whole block of 1024 columns is the block. -/
theorem wide_whole (a : Vec Ideal S512x1024 .f32) : View.ld a r0_0 = a := by
  funext i
  idx_vars i
  pointwise

/-- A load of a whole block of 256 columns is the block. -/
theorem narrow_whole (a : Vec Ideal S512x256 .f32) : View.ld a r0_1 = a := by
  funext i
  idx_vars i
  pointwise

/-- A load of a whole block of 512 columns is the block. -/
theorem attn_whole (a : Vec Ideal S512x512 .f32) : View.ld a r0_3 = a := by
  funext i
  idx_vars i
  pointwise

/-- A load of the whole gain row is the row. -/
theorem gain_whole (a : Vec Ideal S1x1024 .f32) : View.ld a r0_6 = a := by
  funext i
  idx_vars i
  pointwise
  exact congrArg (fun z => a (ix2 z i1)) (Subsingleton.elim _ _)

/-- The normalised rows, of the whole blocks. -/
theorem norm_held (p : Vec Ideal S512x256 .f32) (a : Vec Ideal S512x512 .f32) (o : Vec Ideal S512x256 .f32) (x : Vec Ideal S512x1024 .f32)
    (w : Vec Ideal S1024x1024 .bf16) (g : Vec Ideal S1x1024 .f32) (v : Vec Ideal S1024x128 .f32) (b : Vec Ideal S1x128 .f32) :
    k0_pay25 (F := Ideal) p a o x w g v b
      = k0_pay3 (F := Ideal) x p (View.ld w r0_2) a (View.ld w r0_4) o (View.ld w r0_5) g := by
  unfold k0_pay25
  rw [wide_whole, narrow_whole, narrow_whole, attn_whole, gain_whole]

/-- The rows end as the reference's. -/
theorem final8 (c : Dev nD) : (dats m 0 c).arrAt 8 (cfgs 0).N = rows m c := by
  refine (dats m 0 c).arrAt_eq_of_covers 8 _ (by decide +kernel) fun t _ y => ?_
  blk_simp
  rw [after0_8]
  frame_out
  have ht := (idx t).2.2.2.2.2.2.2.2
  idx_vars y
  refine (rows_point m c t ht y0 y1).trans (congrArg _ ?_)
  blk_ext [idx t]

/-- The normalised rows end as the reference's. -/
theorem final9 (c : Dev nD) : (dats m 0 c).arrAt 9 (cfgs 0).N = (truncf .bf16 (normed m c) bitsLt_bf16_f32 : FVec Ideal S16384x1024 .bf16) := by
  refine (dats m 0 c).arrAt_eq_of_covers 9 _ (by decide +kernel) fun t _ y => ?_
  blk_simp
  rw [after0_9]
  frame_out
  have ht := (idx t).2.2.2.2.2.2.2.2
  idx_vars y
  rw [norm_held]
  refine (norm_point m c t ht y0 y1).trans ?_
  generalize normed m c = g
  refine congrArg g ?_
  blk_ext [idx t]

/-- The normalised rows, back in f32, are the reference's. -/
theorem tail22 (c : Dev nD) : Pipeline.afterTail₀ cfgs (dats m) 0 (V0 m) [hostOps1] c main_v17 = normed m c := by
  unfold Pipeline.afterTail₀
  simp only [hostOps1, List.flatten_cons, List.flatten_nil, List.append_nil]
  after_results
  exact (congrArg (fun A : FVec Ideal S16384x1024 .bf16 => (extf .f32 A bitsLt_bf16_f32 : FVec Ideal S16384x1024 .f32))
    ((Pipeline.withArrays_arr spec0 (by decide) c (V0 m c) (fun w => (dats m 0 c).arrAt w (cfgs 0).N) 9).trans (final9 m c))).trans rfl

/-- The run: the rows and their norm end in the results, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v16_0) = rows m c
      ∧ r.2.mem ((c.tc : Thread nD τ).loc main_v17) = normed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h.1 c).1 8).trans (final8 m c),
      ((h.1 c).2 main_v17 (Pipeline.mem_restRefs_of _ (by decide) (by decide))).trans (tail22 m c), h.2 c⟩)
    (θ_run_and (run_main m ρ) (unchanged m ρ))

end Cert.OutprojIdeal.Proj

end
-- ==== Proof.Experts.lean ====
/- Hand-written, untrusted: the mathematics shared by the two mixtures of experts: one expert on one row. -/
module

public import Idealize.ShloMosaic.Lib.Pipeline.ValueKit

@[expose] public section

set_option maxRecDepth 16384

noncomputable section

open Idealize.ShloMosaic Idealize.ShloMosaic.TcCoe
open scoped BigOperators

namespace Cert.Experts

/-- One expert on a row, at one lane: the gated product of the row with its two matrices, weighted, back along the lane's column. -/
def expert (h : Fin 1024 → EReal) (wg wu : Fin 1024 → Fin 256 → EReal) (k : EReal) (wd : Fin 256 → EReal) : EReal :=
  ∑ f : Fin 256, (∑ j : Fin 1024, h j * wg j f) * Ideal.logistic (∑ j : Fin 1024, h j * wg j f) * (∑ j : Fin 1024, h j * wu j f) * k * wd f

/-- A sum over 32 experts is the sum over four groups of eight. -/
theorem sum_groups (f : Fin 32 → EReal) :
    ∑ s, f s = ((∑ e : Fin 8, f ⟨e, by omega⟩ + ∑ e : Fin 8, f ⟨8 + e, by omega⟩) + ∑ e : Fin 8, f ⟨16 + e, by omega⟩)
      + ∑ e : Fin 8, f ⟨24 + e, by omega⟩ := by
  refine (Fin.sum_univ_add (a := 24) (b := 8) f).trans ?_
  congr 1
  refine (Fin.sum_univ_add (a := 16) (b := 8) fun s => f ⟨s, by omega⟩).trans ?_
  congr 1
  exact Fin.sum_univ_add (a := 8) (b := 8) fun s => f ⟨s, by omega⟩

/-- Two experts agree when their rows, matrices, weights and columns do. -/
theorem expert_congr {h h' : Fin 1024 → EReal} {wg wg' wu wu' : Fin 1024 → Fin 256 → EReal} {k k' : EReal} {wd wd' : Fin 256 → EReal}
    (eh : ∀ j, h j = h' j) (eg : ∀ j f, wg j f = wg' j f) (eu : ∀ j f, wu j f = wu' j f) (ek : k = k') (ed : ∀ f, wd f = wd' f) :
    expert h wg wu k wd = expert h' wg' wu' k' wd' := by
  obtain rfl := funext eh
  obtain rfl := funext fun j => funext (eg j)
  obtain rfl := funext fun j => funext (eu j)
  obtain rfl := ek
  obtain rfl := funext ed
  rfl

end Cert.Experts

end
-- ==== Proof.MoeRef.lean ====
/- Hand-written, untrusted: the reference mixture of experts, stage by stage, each stage read at an index. -/
module

public import proofs.«01_k».proof.Proof.Gen.MoeRefIdeal.Run
public import proofs.«01_k».proof.Proof.Experts

@[expose] public section

set_option maxRecDepth 16384

noncomputable section

open Idealize.ShloMosaic Idealize.ShloMosaic.TcCoe Idealize.SL.Sem
open scoped BigOperators

namespace Cert.MoeRefIdeal.Proj

open Cert.MoeRefIdeal Cert.MoeRefIdeal.Gen Cert.Experts

/-- The rows' products with the matrices of a group's experts. -/
def products (h : FVec Ideal S16384x1024 .f32) (w : FVec Ideal S8x1024x256 .f32) : FVec Ideal S16384x8x256 .f32 :=
  Host.dotGeneral dot_S16384x1024_S8x1024x256_S16384x8x256_1_1_0_02_n_n none h w

/-- A row's products with one expert's weights. -/
theorem products_apply (h : FVec Ideal S16384x1024 .f32) (w : FVec Ideal S8x1024x256 .f32) (n : Fin 16384) (e : Fin 8) (f : Fin 256) :
    products h w (ix3 n e f) = ∑ j : Fin 1024, h (ix2 n j) * w (ix3 e j f) := by
  pointwise [products]

/-- The gate: each entry times its logistic. -/
def gated (a : FVec Ideal S16384x8x256 .f32) : FVec Ideal S16384x8x256 .f32 :=
  mulf a (Host.divf (broadcastInDim S16384x8x256 ![] bcast_S_S16384x8x256 (constant S_ .f32 0x3F800000#32))
    (addf (broadcastInDim S16384x8x256 ![] bcast_S_S16384x8x256 (constant S_ .f32 0x3F800000#32)) (Host.exp (Host.negf a))))

/-- The gate: a number by its logistic function. -/
theorem gated_apply (a : FVec Ideal S16384x8x256 .f32) (n : Fin 16384) (e : Fin 8) (f : Fin 256) :
    gated a (ix3 n e f) = a (ix3 n e f) * Ideal.logistic (a (ix3 n e f)) := by
  pointwise [gated]
  rfl

/-- The hidden rows of a group's experts, each weighted by its entry of the combination. -/
def hidden (a b : FVec Ideal S16384x8x256 .f32) (k : FVec Ideal S16384x8 .f32) : FVec Ideal S16384x8x256 .f32 :=
  mulf (mulf a b) (broadcastInDim S16384x8x256 ![0, 1, 2] bcast_S16384x8x1_S16384x8x256_0_1_2
    (broadcastInDim S16384x8x1 ![0, 1] bcast_S16384x8_S16384x8x1_0_1 k))

/-- The hidden entry: gate by up product by the expert's combination weight. -/
theorem hidden_apply (a b : FVec Ideal S16384x8x256 .f32) (k : FVec Ideal S16384x8 .f32) (n : Fin 16384) (e : Fin 8) (f : Fin 256) :
    hidden a b k (ix3 n e f) = a (ix3 n e f) * b (ix3 n e f) * k (ix2 n e) := by
  pointwise [hidden]

/-- The hidden rows back to the layer's width, summed over the group's experts. -/
def down (a : FVec Ideal S16384x8x256 .f32) (w : FVec Ideal S8x256x1024 .f32) : FVec Ideal S16384x1024 .f32 :=
  Host.dotGeneral dot_S16384x8x256_S8x256x1024_S16384x1024_12_01_0_2_n_n none a w

/-- The way back: summed over a group's experts and their hidden entries. -/
theorem down_apply (a : FVec Ideal S16384x8x256 .f32) (w : FVec Ideal S8x256x1024 .f32) (n : Fin 16384) (l : Fin 1024) :
    down a w (ix2 n l) = ∑ e : Fin 8, ∑ f : Fin 256, a (ix3 n e f) * w (ix3 e f l) := by
  pointwise [down]

/-- The combination weights by group and expert. -/
def combine (k : FVec Ideal S16384x128 .f32) : FVec Ideal S16384x4x8 .f32 :=
  shapeCast S16384x4x8 (extractStridedSlice S16384x32 ![0, 0] k slices_S16384x128_S16384x32_0_0) shapeCasts_S16384x32_S16384x4x8

/-- The combination weights by group and expert are the first 32 lanes. -/
theorem combine_apply (k : FVec Ideal S16384x128 .f32) (n : Fin 16384) (g : Fin 4) (e : Fin 8) :
    combine k (ix3 n g e) = k (ix2 n ⟨8 * g + e, by omega⟩) := by
  pointwise [combine]
  exact congrArg (fun y => k (ix2 n y)) (Fin.ext (by simp; omega))

/-- One group's combination weights. -/
def weights0 (k : FVec Ideal S16384x4x8 .f32) : FVec Ideal S16384x8 .f32 :=
  shapeCast S16384x8 (extractStridedSlice S16384x1x8 ![0, 0, 0] k slices_S16384x4x8_S16384x1x8_0_0_0) shapeCasts_S16384x1x8_S16384x8

/-- The combination weights of group 1. -/
def weights1 (k : FVec Ideal S16384x4x8 .f32) : FVec Ideal S16384x8 .f32 :=
  shapeCast S16384x8 (extractStridedSlice S16384x1x8 ![0, 1, 0] k slices_S16384x4x8_S16384x1x8_0_1_0) shapeCasts_S16384x1x8_S16384x8

/-- The combination weights of group 2. -/
def weights2 (k : FVec Ideal S16384x4x8 .f32) : FVec Ideal S16384x8 .f32 :=
  shapeCast S16384x8 (extractStridedSlice S16384x1x8 ![0, 2, 0] k slices_S16384x4x8_S16384x1x8_0_2_0) shapeCasts_S16384x1x8_S16384x8

/-- The combination weights of group 3. -/
def weights3 (k : FVec Ideal S16384x4x8 .f32) : FVec Ideal S16384x8 .f32 :=
  shapeCast S16384x8 (extractStridedSlice S16384x1x8 ![0, 3, 0] k slices_S16384x4x8_S16384x1x8_0_3_0) shapeCasts_S16384x1x8_S16384x8

/-- A combination weight of group 0. -/
theorem weights0_apply (k : FVec Ideal S16384x4x8 .f32) (n : Fin 16384) (e : Fin 8) : weights0 k (ix2 n e) = k (ix3 n 0 e) := by
  pointwise [weights0]

/-- A combination weight of group 1. -/
theorem weights1_apply (k : FVec Ideal S16384x4x8 .f32) (n : Fin 16384) (e : Fin 8) : weights1 k (ix2 n e) = k (ix3 n 1 e) := by
  pointwise [weights1]

/-- A combination weight of group 2. -/
theorem weights2_apply (k : FVec Ideal S16384x4x8 .f32) (n : Fin 16384) (e : Fin 8) : weights2 k (ix2 n e) = k (ix3 n 2 e) := by
  pointwise [weights2]

/-- A combination weight of group 3. -/
theorem weights3_apply (k : FVec Ideal S16384x4x8 .f32) (n : Fin 16384) (e : Fin 8) : weights3 k (ix2 n e) = k (ix3 n 3 e) := by
  pointwise [weights3]

/-- One group's matrices into the hidden width. -/
def into0 (w : FVec Ideal S4x8x1024x256 .f32) : FVec Ideal S8x1024x256 .f32 :=
  shapeCast S8x1024x256 (extractStridedSlice S1x8x1024x256 ![0, 0, 0, 0] w slices_S4x8x1024x256_S1x8x1024x256_0_0_0_0) shapeCasts_S1x8x1024x256_S8x1024x256

/-- The gate or up weights of group 1. -/
def into1 (w : FVec Ideal S4x8x1024x256 .f32) : FVec Ideal S8x1024x256 .f32 :=
  shapeCast S8x1024x256 (extractStridedSlice S1x8x1024x256 ![1, 0, 0, 0] w slices_S4x8x1024x256_S1x8x1024x256_1_0_0_0) shapeCasts_S1x8x1024x256_S8x1024x256

/-- The gate or up weights of group 2. -/
def into2 (w : FVec Ideal S4x8x1024x256 .f32) : FVec Ideal S8x1024x256 .f32 :=
  shapeCast S8x1024x256 (extractStridedSlice S1x8x1024x256 ![2, 0, 0, 0] w slices_S4x8x1024x256_S1x8x1024x256_2_0_0_0) shapeCasts_S1x8x1024x256_S8x1024x256

/-- The gate or up weights of group 3. -/
def into3 (w : FVec Ideal S4x8x1024x256 .f32) : FVec Ideal S8x1024x256 .f32 :=
  shapeCast S8x1024x256 (extractStridedSlice S1x8x1024x256 ![3, 0, 0, 0] w slices_S4x8x1024x256_S1x8x1024x256_3_0_0_0) shapeCasts_S1x8x1024x256_S8x1024x256

/-- A gate or up weight of group 0. -/
theorem into0_apply (w : FVec Ideal S4x8x1024x256 .f32) (e : Fin 8) (j : Fin 1024) (f : Fin 256) : into0 w (ix3 e j f) = w (ix4 0 e j f) := by
  pointwise [into0]

/-- A gate or up weight of group 1. -/
theorem into1_apply (w : FVec Ideal S4x8x1024x256 .f32) (e : Fin 8) (j : Fin 1024) (f : Fin 256) : into1 w (ix3 e j f) = w (ix4 1 e j f) := by
  pointwise [into1]

/-- A gate or up weight of group 2. -/
theorem into2_apply (w : FVec Ideal S4x8x1024x256 .f32) (e : Fin 8) (j : Fin 1024) (f : Fin 256) : into2 w (ix3 e j f) = w (ix4 2 e j f) := by
  pointwise [into2]

/-- A gate or up weight of group 3. -/
theorem into3_apply (w : FVec Ideal S4x8x1024x256 .f32) (e : Fin 8) (j : Fin 1024) (f : Fin 256) : into3 w (ix3 e j f) = w (ix4 3 e j f) := by
  pointwise [into3]

/-- One group's matrices out of the hidden width. -/
def outof0 (w : FVec Ideal S4x8x256x1024 .f32) : FVec Ideal S8x256x1024 .f32 :=
  shapeCast S8x256x1024 (extractStridedSlice S1x8x256x1024 ![0, 0, 0, 0] w slices_S4x8x256x1024_S1x8x256x1024_0_0_0_0) shapeCasts_S1x8x256x1024_S8x256x1024

/-- The down weights of group 1. -/
def outof1 (w : FVec Ideal S4x8x256x1024 .f32) : FVec Ideal S8x256x1024 .f32 :=
  shapeCast S8x256x1024 (extractStridedSlice S1x8x256x1024 ![1, 0, 0, 0] w slices_S4x8x256x1024_S1x8x256x1024_1_0_0_0) shapeCasts_S1x8x256x1024_S8x256x1024

/-- The down weights of group 2. -/
def outof2 (w : FVec Ideal S4x8x256x1024 .f32) : FVec Ideal S8x256x1024 .f32 :=
  shapeCast S8x256x1024 (extractStridedSlice S1x8x256x1024 ![2, 0, 0, 0] w slices_S4x8x256x1024_S1x8x256x1024_2_0_0_0) shapeCasts_S1x8x256x1024_S8x256x1024

/-- The down weights of group 3. -/
def outof3 (w : FVec Ideal S4x8x256x1024 .f32) : FVec Ideal S8x256x1024 .f32 :=
  shapeCast S8x256x1024 (extractStridedSlice S1x8x256x1024 ![3, 0, 0, 0] w slices_S4x8x256x1024_S1x8x256x1024_3_0_0_0) shapeCasts_S1x8x256x1024_S8x256x1024

/-- A down weight of group 0. -/
theorem outof0_apply (w : FVec Ideal S4x8x256x1024 .f32) (e : Fin 8) (f : Fin 256) (l : Fin 1024) : outof0 w (ix3 e f l) = w (ix4 0 e f l) := by
  pointwise [outof0]

/-- A down weight of group 1. -/
theorem outof1_apply (w : FVec Ideal S4x8x256x1024 .f32) (e : Fin 8) (f : Fin 256) (l : Fin 1024) : outof1 w (ix3 e f l) = w (ix4 1 e f l) := by
  pointwise [outof1]

/-- A down weight of group 2. -/
theorem outof2_apply (w : FVec Ideal S4x8x256x1024 .f32) (e : Fin 8) (f : Fin 256) (l : Fin 1024) : outof2 w (ix3 e f l) = w (ix4 2 e f l) := by
  pointwise [outof2]

/-- A down weight of group 3. -/
theorem outof3_apply (w : FVec Ideal S4x8x256x1024 .f32) (e : Fin 8) (f : Fin 256) (l : Fin 1024) : outof3 w (ix3 e f l) = w (ix4 3 e f l) := by
  pointwise [outof3]

/-- One group of experts on every row. -/
def group (h : FVec Ideal S16384x1024 .f32) (k : FVec Ideal S16384x8 .f32) (wg wu : FVec Ideal S8x1024x256 .f32)
    (wd : FVec Ideal S8x256x1024 .f32) : FVec Ideal S16384x1024 .f32 :=
  down (hidden (gated (products h wg)) (products h wu) k) wd

/-- A group at a row and a lane is the sum of its experts there. -/
theorem group_apply (h : FVec Ideal S16384x1024 .f32) (k : FVec Ideal S16384x8 .f32) (wg wu : FVec Ideal S8x1024x256 .f32)
    (wd : FVec Ideal S8x256x1024 .f32) (n : Fin 16384) (l : Fin 1024) :
    group h k wg wu wd (ix2 n l) = ∑ e : Fin 8, expert (fun j => h (ix2 n j)) (fun j f => wg (ix3 e j f)) (fun j f => wu (ix3 e j f))
      (k (ix2 n e)) (fun f => wd (ix3 e f l)) := by
  simp only [group, down_apply, hidden_apply, gated_apply, products_apply]
  rfl

/-- The zero the groups are added to. -/
def zeros : FVec Ideal S16384x1024 .f32 := broadcastInDim S16384x1024 ![] bcast_S_S16384x1024 (constant S_ .f32 0x00000000#32)

/-- The sum over the groups starts from zero. -/
theorem zeros_apply (n : Fin 16384) (l : Fin 1024) : zeros (ix2 n l) = 0 := by
  pointwise [zeros]

/-- The rows plus the four groups. -/
def ref (h : FVec Ideal S16384x1024 .f32) (k : FVec Ideal S16384x128 .f32) (x : FVec Ideal S16384x1024 .f32)
    (wg wu : FVec Ideal S4x8x1024x256 .f32) (wd : FVec Ideal S4x8x256x1024 .f32) : FVec Ideal S16384x1024 .f32 :=
  addf x (addf (addf (addf (addf zeros
    (group h (weights0 (combine k)) (into0 wg) (into0 wu) (outof0 wd)))
    (group h (weights1 (combine k)) (into1 wg) (into1 wu) (outof1 wd)))
    (group h (weights2 (combine k)) (into2 wg) (into2 wu) (outof2 wd)))
    (group h (weights3 (combine k)) (into3 wg) (into3 wu) (outof3 wd)))

/-- The term of the `s`-th of the 32 experts, at a row and a lane. -/
def term (h : FVec Ideal S16384x1024 .f32) (k : FVec Ideal S16384x128 .f32) (wg wu : FVec Ideal S4x8x1024x256 .f32)
    (wd : FVec Ideal S4x8x256x1024 .f32) (n : Fin 16384) (l : Fin 1024) (s : Fin 32) : EReal :=
  expert (fun j => h (ix2 n j)) (fun j f => wg (ix4 ⟨s / 8, by omega⟩ ⟨s % 8, by omega⟩ j f))
    (fun j f => wu (ix4 ⟨s / 8, by omega⟩ ⟨s % 8, by omega⟩ j f)) (k (ix2 n ⟨s, by omega⟩))
    (fun f => wd (ix4 ⟨s / 8, by omega⟩ ⟨s % 8, by omega⟩ f l))

/-- The reference at a row and a lane is the row plus the 32 experts' terms. -/
theorem ref_apply (h : FVec Ideal S16384x1024 .f32) (k : FVec Ideal S16384x128 .f32) (x : FVec Ideal S16384x1024 .f32)
    (wg wu : FVec Ideal S4x8x1024x256 .f32) (wd : FVec Ideal S4x8x256x1024 .f32) (n : Fin 16384) (l : Fin 1024) :
    ref h k x wg wu wd (ix2 n l) = x (ix2 n l) + ∑ s : Fin 32, term h k wg wu wd n l s := by
  have e : ref h k x wg wu wd (ix2 n l) = x (ix2 n l) + ((((zeros (ix2 n l)
      + group h (weights0 (combine k)) (into0 wg) (into0 wu) (outof0 wd) (ix2 n l))
      + group h (weights1 (combine k)) (into1 wg) (into1 wu) (outof1 wd) (ix2 n l))
      + group h (weights2 (combine k)) (into2 wg) (into2 wu) (outof2 wd) (ix2 n l))
      + group h (weights3 (combine k)) (into3 wg) (into3 wu) (outof3 wd) (ix2 n l)) := rfl
  rw [e, zeros_apply, zero_add, sum_groups]
  simp only [group_apply, weights0_apply, weights1_apply, weights2_apply, weights3_apply, combine_apply,
    into0_apply, into1_apply, into2_apply, into3_apply, outof0_apply, outof1_apply, outof2_apply, outof3_apply]
  refine congrArg (x (ix2 n l) + ·) ?_
  refine congrArg₂ (· + ·) (congrArg₂ (· + ·) (congrArg₂ (· + ·) ?_ ?_) ?_) ?_ <;>
  · refine Finset.sum_congr rfl fun e _ => ?_
    exact expert_congr (fun _ => rfl) (fun j f => congrArg₂ (fun a b => wg (ix4 a b j f)) (Fin.ext (by simp; try omega)) (Fin.ext (by simp; try omega)))
      (fun j f => congrArg₂ (fun a b => wu (ix4 a b j f)) (Fin.ext (by simp; try omega)) (Fin.ext (by simp; try omega)))
      (congrArg (fun a => k (ix2 n a)) (Fin.ext (by simp; try omega)))
      (fun f => congrArg₂ (fun a b => wd (ix4 a b f l)) (Fin.ext (by simp; try omega)) (Fin.ext (by simp; try omega)))

/-- The reference's run: the rows plus the experts end in the result, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71)
          = ref (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) :=
  (θ_run defs _ _).mono (fun _ h c => ⟨(h c).1.trans rfl, (h c).2⟩) (Cert.MoeRefIdeal.Value.run m ρ)

end Cert.MoeRefIdeal.Proj

end
-- ==== Proof.MoePoint.lean ====
/- Hand-written, untrusted: the mixture of experts call, block by block. -/
module

public import proofs.«01_k».proof.Proof.Gen.MoeIdeal.Frame
public import proofs.«01_k».proof.Proof.MoeRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MoeIdeal.Proj

open Cert.MoeIdeal Cert.MoeIdeal.Gen Cert.Experts

variable (m : (ℓ : Loc nD τ sig) → Buf (Elt Ideal) ℓ)

/-- Keeping one lane and summing leaves that lane. -/
theorem pick (k : Fin 128 → EReal) (e : Nat) (s : Fin 32) (hs : e = s) :
    ∑ x : Fin 128, Scalar.select (IntOp.cmpi .eq (BitVec.ofNat 32 x) (BitVec.ofNat 32 e)) (k x) 0 = k ⟨s, by omega⟩ := by
  subst hs
  have h : ∀ x : Fin 128, Scalar.select (IntOp.cmpi .eq (BitVec.ofNat 32 x) (BitVec.ofNat 32 s)) (k x) 0
      = if x = ⟨s, by omega⟩ then k x else 0 := by
    intro x
    have hx := x.isLt
    have hs := s.isLt
    rw [WordCmp.cmpi_eq_eq_toNat, BitVec.toNat_ofNat, BitVec.toNat_ofNat, Nat.mod_eq_of_lt (by omega), Nat.mod_eq_of_lt (by omega)]
    by_cases hxs : x = ⟨s, by omega⟩
    · have hv : (x : Nat) = s := congrArg Fin.val hxs
      rw [if_pos hxs, decide_eq_true hv]
      rfl
    · have hv : ¬ (x : Nat) = s := fun h => hxs (Fin.ext h)
      rw [if_neg hxs, decide_eq_false hv]
      rfl
  rw [Finset.sum_congr rfl fun x _ => h x, Finset.sum_ite_eq' Finset.univ (⟨s, by omega⟩ : Fin 128) k, if_pos (Finset.mem_univ _)]

/-- One point's payload, at a row and a lane: what was there plus the point's expert. -/
theorem expert_pay (i : grid0.Coords) (h : Vec Ideal S1024x1024 .bf16) (wg wu : Vec Ideal S1x1024x256 .f32) (k : Vec Ideal S1024x128 .f32)
    (acc : Vec Ideal S1024x1024 .f32) (wd : Vec Ideal S1x256x1024 .f32) (r l : Fin 1024) (s : Fin 32) (hs : (i 1).val = s) :
    k0_pay1 (F := Ideal) i h wg wu k acc wd (ix2 r l) = acc (ix2 r l) + expert (fun j => h (ix2 r j)) (fun j f => wg (ix3 0 j f))
      (fun j f => wu (ix3 0 j f)) (k (ix2 r ⟨s, by omega⟩)) (fun f => wd (ix3 0 f l)) := by
  have e := pick (fun x => k (ix2 r x)) (i 1).val s hs
  pointwise [k0_pay1]
  refine congrArg (acc (ix2 r l) + ·) ?_
  unfold expert
  refine Finset.sum_congr rfl fun f _ => ?_
  exact congrArg (fun z => (∑ j : Fin 1024, h (ix2 r j) * wg (ix3 0 j f)) * Ideal.logistic (∑ j : Fin 1024, h (ix2 r j) * wg (ix3 0 j f))
    * (∑ j : Fin 1024, h (ix2 r j) * wu (ix3 0 j f)) * z * wd (ix3 0 f l)) e

/-! ## The arrays the region finds -/

abbrev Ha (c : Dev nD) : FVec Ideal S16384x1024 .f32 := m ((c : Thread nD τ).loc main_arg0)
abbrev Ka (c : Dev nD) : FVec Ideal S16384x128 .f32 := m ((c : Thread nD τ).loc main_arg1)
abbrev Xa (c : Dev nD) : FVec Ideal S16384x1024 .f32 := m ((c : Thread nD τ).loc main_arg2)
abbrev Ga (c : Dev nD) : FVec Ideal S4x8x1024x256 .f32 := m ((c : Thread nD τ).loc main_arg3)
abbrev Ua (c : Dev nD) : FVec Ideal S4x8x1024x256 .f32 := m ((c : Thread nD τ).loc main_arg4)
abbrev Da (c : Dev nD) : FVec Ideal S4x8x256x1024 .f32 := m ((c : Thread nD τ).loc main_arg5)

/-- The region finds the rows in bf16. -/
theorem V_rows (c : Dev nD) : V m c main_v3 = (truncf .bf16 (Ha m c) bitsLt_bf16_f32 : FVec Ideal S16384x1024 .bf16) := by
  unfold V
  simp only [hostOps0, List.flatten_cons, List.flatten_nil, List.append_nil, List.cons_append, List.nil_append]
  after_results <;> rfl

/-- The experts' matrices in one run of thirty-two. -/
def listed (w : FVec Ideal S4x8x1024x256 .f32) : FVec Ideal S32x1024x256 .f32 := shapeCast S32x1024x256 w shapeCasts_S4x8x1024x256_S32x1024x256
/-- The down weights of the 32 experts, one after the other. -/
def listedD (w : FVec Ideal S4x8x256x1024 .f32) : FVec Ideal S32x256x1024 .f32 := shapeCast S32x256x1024 w shapeCasts_S4x8x256x1024_S32x256x1024

/-- Expert `s` of the list is expert `s % 8` of group `s / 8`. -/
theorem listed_apply (w : FVec Ideal S4x8x1024x256 .f32) (s : Fin 32) (j : Fin 1024) (f : Fin 256) :
    listed w (ix3 s j f) = w (ix4 ⟨s / 8, by omega⟩ ⟨s % 8, by omega⟩ j f) := by
  pointwise [listed]

/-- Expert `s` of the list of down weights is expert `s % 8` of group `s / 8`. -/
theorem listedD_apply (w : FVec Ideal S4x8x256x1024 .f32) (s : Fin 32) (f : Fin 256) (l : Fin 1024) :
    listedD w (ix3 s f l) = w (ix4 ⟨s / 8, by omega⟩ ⟨s % 8, by omega⟩ f l) := by
  pointwise [listedD]

/-- The region finds the experts' matrices in one run. -/
theorem V_gate (c : Dev nD) : V m c main_v0 = listed (Ga m c) := by
  unfold V listed
  simp only [hostOps0, List.flatten_cons, List.flatten_nil, List.append_nil, List.cons_append, List.nil_append]
  after_results <;> rfl

/-- The region finds the up weights of the 32 experts, one after the other. -/
theorem V_up (c : Dev nD) : V m c main_v1 = listed (Ua m c) := by
  unfold V listed
  simp only [hostOps0, List.flatten_cons, List.flatten_nil, List.append_nil, List.cons_append, List.nil_append]
  after_results <;> rfl

/-- The region finds the down weights of the 32 experts, one after the other. -/
theorem V_down (c : Dev nD) : V m c main_v2 = listedD (Da m c) := by
  unfold V listedD
  simp only [hostOps0, List.flatten_cons, List.flatten_nil, List.append_nil, List.cons_append, List.nil_append]
  after_results <;> rfl

/-- Every window's block index at a grid point: sixteen blocks of 1024 rows, each visited by the thirty-two experts in turn. -/
theorem idx : ∀ t : Fin cfg0.N, win0_0.index t = ![t.val / 32, 0]
    ∧ win0_1.index t = ![t.val / 32, 0]
    ∧ win0_2.index t = ![t.val / 32, 0]
    ∧ win0_3.index t = ![t.val % 32, 0, 0]
    ∧ win0_4.index t = ![t.val % 32, 0, 0]
    ∧ win0_5.index t = ![t.val % 32, 0, 0]
    ∧ win0_6.index t = ![t.val / 32, 0]
    ∧ (grid0.coords t 1).val = t.val % 32
    ∧ t.val < 512 :=
  (by decide +kernel : ∀ t : Fin grid0.N, _)

/-- Point `t`'s rows are the 1024 rows of its block. -/
theorem h_block (c : Dev nD) (t : Fin cfg0.N) (ht : t.val < 512) (r j : Fin 1024) :
    iblk m c 0 t (ix2 r j) = Ha m c (ix2 ⟨1024 * (t.val / 32) + r, by omega⟩ j) := by
  have e := V_rows m c
  blk_point [iblk, e, idx t]

/-- Point `t`'s combination weights are those of its 1024 rows. -/
theorem k_block (c : Dev nD) (t : Fin cfg0.N) (ht : t.val < 512) (r : Fin 1024) (j : Fin 128) :
    iblk m c 1 t (ix2 r j) = Ka m c (ix2 ⟨1024 * (t.val / 32) + r, by omega⟩ j) := by
  blk_ext [iblk, V, idx t]

/-- Point `t`'s residual rows are its 1024 rows. -/
theorem x_block (c : Dev nD) (t : Fin cfg0.N) (ht : t.val < 512) (r l : Fin 1024) :
    iblk m c 2 t (ix2 r l) = Xa m c (ix2 ⟨1024 * (t.val / 32) + r, by omega⟩ l) := by
  blk_ext [iblk, V, idx t]

/-- Point `t`'s gate weights are those of its expert. -/
theorem g_block (c : Dev nD) (t : Fin cfg0.N) (j : Fin 1024) (f : Fin 256) :
    iblk m c 3 t (ix3 0 j f) = listed (Ga m c) (ix3 ⟨t.val % 32, by omega⟩ j f) := by
  have e := V_gate m c
  generalize listed (Ga m c) = g at e ⊢
  blk_point [iblk, e, idx t]

/-- Point `t`'s up weights are those of its expert. -/
theorem u_block (c : Dev nD) (t : Fin cfg0.N) (j : Fin 1024) (f : Fin 256) :
    iblk m c 4 t (ix3 0 j f) = listed (Ua m c) (ix3 ⟨t.val % 32, by omega⟩ j f) := by
  have e := V_up m c
  generalize listed (Ua m c) = g at e ⊢
  blk_point [iblk, e, idx t]

/-- Point `t`'s down weights are those of its expert. -/
theorem d_block (c : Dev nD) (t : Fin cfg0.N) (f : Fin 256) (l : Fin 1024) :
    iblk m c 5 t (ix3 0 f l) = listedD (Da m c) (ix3 ⟨t.val % 32, by omega⟩ f l) := by
  have e := V_down m c
  generalize listedD (Da m c) = g at e ⊢
  blk_point [iblk, e, idx t]

/-- Point `t`'s expert, at a row of its block and a lane, is the reference's term. -/
def part (c : Dev nD) (t : Fin cfg0.N) (r l : Fin 1024) : EReal :=
  Cert.MoeRefIdeal.Proj.term (Ha m c) (Ka m c) (Ga m c) (Ua m c) (Da m c)
    ⟨1024 * (t.val / 32) + r, by have := (idx t).2.2.2.2.2.2.2.2; omega⟩ l ⟨t.val % 32, by omega⟩

/-- Point `t` adds the reference's term to what it finds. -/
theorem point (c : Dev nD) (t : Fin cfg0.N) (acc : Vec Ideal S1024x1024 .f32) (r l : Fin 1024) :
    k0_pay1 (F := Ideal) (grid0.coords t) (iblk m c 0 t) (iblk m c 3 t) (iblk m c 4 t) (iblk m c 1 t) acc (iblk m c 5 t) (ix2 r l)
      = acc (ix2 r l) + part m c t r l := by
  have ht := (idx t).2.2.2.2.2.2.2.2
  rw [expert_pay (grid0.coords t) (iblk m c 0 t) (iblk m c 3 t) (iblk m c 4 t) (iblk m c 1 t) acc (iblk m c 5 t) r l ⟨t.val % 32, by omega⟩
    (idx t).2.2.2.2.2.2.2.1]
  unfold part Cert.MoeRefIdeal.Proj.term
  refine congrArg (acc (ix2 r l) + ·) (expert_congr ?_ ?_ ?_ ?_ ?_)
  · exact fun j => h_block m c t ht r j
  · exact fun j f => (g_block m c t j f).trans (listed_apply (Ga m c) ⟨t.val % 32, by omega⟩ j f)
  · exact fun j f => (u_block m c t j f).trans (listed_apply (Ua m c) ⟨t.val % 32, by omega⟩ j f)
  · exact k_block m c t ht r ⟨t.val % 32, by omega⟩
  · exact fun f => (d_block m c t f l).trans (listedD_apply (Da m c) ⟨t.val % 32, by omega⟩ f l)

/-- The reference of the argument arrays. -/
abbrev result (c : Dev nD) : FVec Ideal S16384x1024 .f32 :=
  Cert.MoeRefIdeal.Proj.ref (Ha m c) (Ka m c) (Xa m c) (Ga m c) (Ua m c) (Da m c)

/-- The rows of point `t`'s block, and zero but at the first point of a block. -/
def opening (c : Dev nD) (t : Fin cfg0.N) (r l : Fin 1024) : EReal :=
  if t.val % 32 = 0 then Xa m c (ix2 ⟨1024 * (t.val / 32) + r, by have := (idx t).2.2.2.2.2.2.2.2; omega⟩ l) else 0

/-- What point `t` adds to the block: its expert, and at the first point of a block the rows too. -/
def added (c : Dev nD) (t : Fin cfg0.N) (i : S1024x1024.Idx) : EReal := opening m c t (i 0) (i 1) + part m c t (i 0) (i 1)

/-- The first point of a block leaves what it adds. -/
theorem first (c : Dev nD) (t : Fin cfg0.N) (h : t.val % 32 = 0) (i : S1024x1024.Idx) :
    outsAt0 m c t.val t.isLt i = (0 : EReal) + added m c t i := by
  rw [outsAt0_A m c t h]
  frame_out
  idx_vars i
  have ht := (idx t).2.2.2.2.2.2.2.2
  have e : opening m c t i0 i1 = Xa m c (ix2 ⟨1024 * (t.val / 32) + i0, by omega⟩ i1) := if_pos h
  refine (point m c t (iblk m c 2 t) i0 i1).trans (Eq.trans ?_ (zero_add _).symm)
  exact congrArg (· + part m c t i0 i1) ((x_block m c t ht i0 i1).trans e.symm)

/-- Every other point adds to what the one before left. -/
theorem next (c : Dev nD) (t : Fin cfg0.N) (h : ¬ t.val % 32 = 0) (i : S1024x1024.Idx) :
    outsAt0 m c t.val t.isLt i = (outsAt0 m c (t.val - 1) (Nat.lt_of_le_of_lt (Nat.sub_le _ _) t.isLt) i : EReal) + added m c t i := by
  rw [outsAt0_B m c t h]
  frame_out
  idx_vars i
  have e : opening m c t i0 i1 = 0 := if_neg h
  refine (point m c t _ i0 i1).trans (congrArg (outsAt0 m c (t.val - 1) (Nat.lt_of_le_of_lt (Nat.sub_le _ _) t.isLt) (ix2 i0 i1) + ·) ?_)
  exact ((congrArg (· + part m c t i0 i1) e).trans (zero_add _)).symm

/-- The thirty-two points of a block add up to the reference's rows. -/
theorem block_sum (c : Dev nD) (b : Nat) (hb : b < 16) (p : ∀ s : Fin 32, 32 * b + s.val < cfg0.N) (r l : Fin 1024) :
    ∑ s : Fin 32, added m c ⟨32 * b + s.val, p s⟩ (ix2 r l) = result m c (ix2 ⟨1024 * b + r, by omega⟩ l) := by
  rw [result, Cert.MoeRefIdeal.Proj.ref_apply]
  have e : ∀ s : Fin 32, added m c ⟨32 * b + s.val, p s⟩ (ix2 r l) = (if s = 0 then Xa m c (ix2 ⟨1024 * b + r, by omega⟩ l) else 0)
      + Cert.MoeRefIdeal.Proj.term (Ha m c) (Ka m c) (Ga m c) (Ua m c) (Da m c) ⟨1024 * b + r, by omega⟩ l s := by
    intro s
    have h1 : (32 * b + s.val) / 32 = b := by omega
    have h2 : (32 * b + s.val) % 32 = s.val := by omega
    refine congrArg₂ (fun a b : EReal => a + b) ?_ ?_
    · show opening m c ⟨32 * b + s.val, p s⟩ r l = _
      unfold opening
      by_cases hs : s = 0
      · rw [if_pos hs, if_pos (by show (32 * b + s.val) % 32 = 0; rw [h2, hs]; rfl)]
        exact congrArg (fun n => Xa m c (ix2 n l)) (Fin.ext (by show 1024 * ((32 * b + s.val) / 32) + r.val = _; rw [h1]))
      · rw [if_neg hs, if_neg (by show ¬ (32 * b + s.val) % 32 = 0; rw [h2]; exact fun h => hs (Fin.ext h))]
    · show part m c ⟨32 * b + s.val, p s⟩ r l = _
      unfold part
      exact congrArg₂ (fun n s => Cert.MoeRefIdeal.Proj.term (Ha m c) (Ka m c) (Ga m c) (Ua m c) (Da m c) n l s)
        (Fin.ext (by show 1024 * ((32 * b + s.val) / 32) + r.val = _; rw [h1])) (Fin.ext h2)
  rw [Finset.sum_congr rfl fun s _ => e s, Finset.sum_add_distrib, Finset.sum_ite_eq' Finset.univ (0 : Fin 32), if_pos (Finset.mem_univ _)]

/-- The result array ends as the reference's. -/
theorem final6 (c : Dev nD) : (dats m 0 c).arrAt 6 (cfgs 0).N = result m c := by
  refine (dats m 0 c).arrAt_eq_of_covers 6 _ (by decide +kernel) fun t hf y => ?_
  blk_simp
  rw [after0_6, Pipeline.eq_sum_fin_of_reset_step_apply_of_flush (M := EReal) (fun n h => outsAt0 m c n h) 32 (fun _ => 0) (added m c)
    (first m c) (next m c) t ((flush0_6 t).mp hf) _, zero_add]
  idx_vars y
  have ht := (idx t).2.2.2.2.2.2.2.2
  refine (block_sum m c (t.val / 32) (by omega) _ y0 y1).trans (congrArg _ ?_)
  blk_ext [idx t]

/-- The run: the rows plus the experts end in the result, and the arguments are unchanged. -/
theorem run (ρ : Dev nD → PrngReg) : θ_run defs (onTc (τ := τ) (main (F := Ideal))) ⟨m, fun _ => 0, ρ⟩ fun r => ∀ c : Dev nD,
    r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (final6 m c), h.2 c⟩)
    (θ_run_and (run_main m ρ) (unchanged m ρ))

end Cert.MoeIdeal.Proj

end
-- ==== Proof.lean ====
/- Hand-written, untrusted: the certificate's claims assembled. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Project.Frame
public import proofs.«01_k».proof.Proof.Gen.ProjectIdeal.Frame
public import proofs.«01_k».proof.Proof.Gen.ProjectRefIdeal
public import proofs.«01_k».proof.Proof.Gen.ProjectRefIdeal.Run
public import proofs.«01_k».proof.Proof.Gen.Memory.Frame
public import proofs.«01_k».proof.Proof.Gen.MemoryIdeal.Frame
public import proofs.«01_k».proof.Proof.Gen.MemoryRefIdeal
public import proofs.«01_k».proof.Proof.Gen.MemoryRefIdeal.Run
public import proofs.«01_k».proof.Proof.Gen.Outproj.Frame
public import proofs.«01_k».proof.Proof.Gen.OutprojIdeal.Frame
public import proofs.«01_k».proof.Proof.Gen.OutprojRefIdeal
public import proofs.«01_k».proof.Proof.Gen.OutprojRefIdeal.Run
public import proofs.«01_k».proof.Proof.Gen.Moe.Frame
public import proofs.«01_k».proof.Proof.Gen.MoeIdeal.Frame
public import proofs.«01_k».proof.Proof.Gen.MoeRefIdeal
public import proofs.«01_k».proof.Proof.Gen.MoeRefIdeal.Run
public import proofs.«01_k».proof.Proof.Gen.Sample.Frame
public import proofs.«01_k».proof.Proof.Gen.SampleIdeal.Frame
public import proofs.«01_k».proof.Proof.Gen.SampleRefIdeal
public import proofs.«01_k».proof.Proof.Gen.SampleRefIdeal.Run
public import proofs.«01_k».proof.Proof.MemValue
public import proofs.«01_k».proof.Proof.PreFacts
public import proofs.«01_k».proof.Proof.MemoryPoint
public import proofs.«01_k».proof.Proof.SampleRun
public import proofs.«01_k».proof.Proof.ProjectRun
public import proofs.«01_k».proof.Proof.OutprojPoint
public import proofs.«01_k».proof.Proof.MoePoint
public import Idealize.ShloMosaic.Adequacy
public import Idealize.ShloMosaic.Init

@[expose] public section

set_option maxRecDepth 16384

noncomputable section

open Idealize.ShloMosaic Idealize.ShloMosaic.TcCoe Idealize.SL.Sem

namespace Cert.Proof

/-- The cross-attention call and its reference end with equal results, the queries and keys being finite. -/
theorem memory_attention : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  pair_intro
  · run_from Cert.KernelIdeal.Value.run_blocks m g
  · run_from Cert.ReferenceIdeal.Value.run m' g'
    have hQ := Cert.Pre_finite.Hand.queries _ _ _ _ (hpre c)
    have hK := Cert.Pre_finite.Hand.keys _ _ _ _ (hpre c)
    obtain ⟨h0, h1, h2, h3⟩ := hagree c
    refine (Cert.ReferenceIdeal.Mem.res_eq m' c).trans ?_
    rw [h0, h1, h2, h3]
    exact (Cert.KernelIdeal.Mem.final m c hQ hK).symm

/-- The memory tokens' projection and its reference end with equal keys and values. -/
theorem memory_projection : Cert.algebraic_MemoryIdeal_MemoryRefIdeal (hMemoryIdeal := Cert.MemoryIdeal.Gen.facts)
    (hMemoryRefIdeal := Cert.MemoryRefIdeal.Gen.facts) := by
  pair_intro
  · run_from Cert.MemoryIdeal.Proj.run m g
  · run_from Cert.MemoryRefIdeal.Proj.run m' g'
    all_goals
      obtain ⟨h0, h1, h2, h3⟩ := hagree c
      simp only [Cert.MemoryRefIdeal.Proj.ref, h0, h1, h2, h3]
      rfl

/-- The sample rows' projection and its reference end with equal results. -/
theorem sample_projection : Cert.algebraic_SampleIdeal_SampleRefIdeal (hSampleIdeal := Cert.SampleIdeal.Gen.facts)
    (hSampleRefIdeal := Cert.SampleRefIdeal.Gen.facts) := by
  pair_intro
  · run_from Cert.SampleIdeal.Proj.run m g
  · refine Idealize.ShloMosaic.θ_run_mono (Cert.SampleRefIdeal.Proj.run m' g') fun r hr c => ?_
    obtain ⟨h0, h1, h2, h3, h4, h5, h6⟩ := hagree c
    obtain ⟨k0, k1, k2, k3, k4, rest⟩ := hr c
    refine ⟨k0.trans ?_, k1.trans ?_, k2.trans ?_, k3.trans ?_, k4.trans ?_, rest⟩
    all_goals
      simp only [Cert.SampleRefIdeal.Proj.ref, h0, h1, h2, h3, h4, h5, h6]
      try rfl

set_option maxHeartbeats 4000000 in
/-- The prompt rows' projection and its reference end with equal results. -/
theorem prompt_projection : Cert.algebraic_ProjectIdeal_ProjectRefIdeal (hProjectIdeal := Cert.ProjectIdeal.Gen.facts)
    (hProjectRefIdeal := Cert.ProjectRefIdeal.Gen.facts) := by
  pair_intro
  · run_from Cert.ProjectIdeal.Proj.run m g
  · refine Idealize.ShloMosaic.θ_run_mono (Cert.ProjectRefIdeal.Proj.run m' g') fun r hr c => ?_
    obtain ⟨h0, h1, h2, h3, h4, h5⟩ := hagree c
    obtain ⟨k0, k1, k2, k3, k4, k5, k6, rest⟩ := hr c
    refine ⟨k0.trans ?_, k1.trans ?_, k2.trans ?_, k3.trans ?_, k4.trans ?_, k5.trans ?_, k6.trans ?_, rest⟩
    all_goals
      simp only [Cert.ProjectRefIdeal.Proj.ref, h0, h1, h2, h3, h4, h5]
      try rfl

/-- The output projection with the residual and its norm, and their reference, end with equal results. -/
theorem output_projection : Cert.algebraic_OutprojIdeal_OutprojRefIdeal (hOutprojIdeal := Cert.OutprojIdeal.Gen.facts)
    (hOutprojRefIdeal := Cert.OutprojRefIdeal.Gen.facts) := by
  pair_intro
  · run_from Cert.OutprojIdeal.Proj.run m g
  · refine Idealize.ShloMosaic.θ_run_mono (Cert.OutprojRefIdeal.Proj.run m' g') fun r hr c => ?_
    obtain ⟨h0, h1, h2, h3, h4, h5, h6, h7, h8, h9⟩ := hagree c
    obtain ⟨k0, k1, rest⟩ := hr c
    refine ⟨k0.trans ?_, k1.trans ?_, rest⟩
    all_goals
      simp only [Cert.OutprojRefIdeal.Proj.ref, h0, h1, h2, h3, h4, h5]
      try rfl

/-- The mixture of experts and its reference end with equal rows. -/
theorem mixture_of_experts : Cert.algebraic_MoeIdeal_MoeRefIdeal (hMoeIdeal := Cert.MoeIdeal.Gen.facts)
    (hMoeRefIdeal := Cert.MoeRefIdeal.Gen.facts) := by
  pair_intro
  · run_from Cert.MoeIdeal.Proj.run m g
  · refine Idealize.ShloMosaic.θ_run_mono (Cert.MoeRefIdeal.Proj.run m' g') fun r hr c => ?_
    obtain ⟨h0, h1, h2, h3, h4, h5⟩ := hagree c
    obtain ⟨k0, rest⟩ := hr c
    refine ⟨k0.trans ?_, rest⟩
    rw [h0, h1, h2, h3, h4, h5]

/-- The reference runs, its arguments end unchanged and every semaphore reads zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference projection of the prompt rows runs, its arguments end unchanged and every semaphore reads zero. -/
theorem prompt_reference_frame : Cert.quiescent_ProjectRefIdeal (hProjectRefIdeal := Cert.ProjectRefIdeal.Gen.facts) := fun m ρ _ =>
  (θ_run Cert.ProjectRefIdeal.defs _ _).mono (fun r h => ⟨fun c => (h c).2.2.2.2.2.2.2, sem_eq_zero_of_no_sems (by decide) r.2⟩)
    (Cert.ProjectRefIdeal.Value.run (F := Ideal) m ρ)

/-- The reference projection of the memory rows runs, its arguments end unchanged and every semaphore reads zero. -/
theorem memory_reference_frame : Cert.quiescent_MemoryRefIdeal (hMemoryRefIdeal := Cert.MemoryRefIdeal.Gen.facts) := fun m ρ _ =>
  (θ_run Cert.MemoryRefIdeal.defs _ _).mono (fun r h => ⟨fun c => (h c).2.2, sem_eq_zero_of_no_sems (by decide) r.2⟩)
    (Cert.MemoryRefIdeal.Value.run (F := Ideal) m ρ)

/-- The reference projection of the sample rows runs, its arguments end unchanged and every semaphore reads zero. -/
theorem sample_reference_frame : Cert.quiescent_SampleRefIdeal (hSampleRefIdeal := Cert.SampleRefIdeal.Gen.facts) := fun m ρ _ =>
  (θ_run Cert.SampleRefIdeal.defs _ _).mono (fun r h => ⟨fun c => (h c).2.2.2.2.2, sem_eq_zero_of_no_sems (by decide) r.2⟩)
    (Cert.SampleRefIdeal.Value.run (F := Ideal) m ρ)

/-- The reference output projection runs, its arguments end unchanged and every semaphore reads zero. -/
theorem output_reference_frame : Cert.quiescent_OutprojRefIdeal (hOutprojRefIdeal := Cert.OutprojRefIdeal.Gen.facts) := fun m ρ _ =>
  (θ_run Cert.OutprojRefIdeal.defs _ _).mono (fun r h => ⟨fun c => (h c).2.2, sem_eq_zero_of_no_sems (by decide) r.2⟩)
    (Cert.OutprojRefIdeal.Value.run (F := Ideal) m ρ)

/-- The reference mixture of experts runs, its arguments end unchanged and every semaphore reads zero. -/
theorem moe_reference_frame : Cert.quiescent_MoeRefIdeal (hMoeRefIdeal := Cert.MoeRefIdeal.Gen.facts) := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- Everything the certificate claims. -/
theorem claim : Cert.Claim :=
  ⟨Cert.Kernel.Gen.facts, Cert.KernelIdeal.Gen.facts, Cert.ReferenceIdeal.Gen.facts, Cert.Project.Gen.facts, Cert.ProjectIdeal.Gen.facts,
    Cert.ProjectRefIdeal.Gen.facts, Cert.Memory.Gen.facts, Cert.MemoryIdeal.Gen.facts, Cert.MemoryRefIdeal.Gen.facts, Cert.Sample.Gen.facts,
    Cert.SampleIdeal.Gen.facts, Cert.SampleRefIdeal.Gen.facts, Cert.Outproj.Gen.facts, Cert.OutprojIdeal.Gen.facts, Cert.OutprojRefIdeal.Gen.facts,
    Cert.Moe.Gen.facts, Cert.MoeIdeal.Gen.facts, Cert.MoeRefIdeal.Gen.facts, Cert.Pre_finite.Hand.facts,
    fun m ρ _ => Cert.Kernel.Gen.frame m ρ, fun m ρ _ => Cert.KernelIdeal.Gen.frame m ρ, fun m ρ _ => Cert.KernelIdeal.Gen.frame m ρ,
    fun m ρ _ => reference_frame m ρ trivial, fun m ρ _ => reference_frame m ρ trivial,
    fun m ρ _ => Cert.Project.Gen.frame m ρ, fun m ρ _ => Cert.ProjectIdeal.Gen.frame m ρ, prompt_reference_frame,
    fun m ρ _ => Cert.Memory.Gen.frame m ρ, fun m ρ _ => Cert.MemoryIdeal.Gen.frame m ρ, memory_reference_frame,
    fun m ρ _ => Cert.Sample.Gen.frame m ρ, fun m ρ _ => Cert.SampleIdeal.Gen.frame m ρ, sample_reference_frame,
    fun m ρ _ => Cert.Outproj.Gen.frame m ρ, fun m ρ _ => Cert.OutprojIdeal.Gen.frame m ρ, output_reference_frame,
    fun m ρ _ => Cert.Moe.Gen.frame m ρ, fun m ρ _ => Cert.MoeIdeal.Gen.frame m ρ, moe_reference_frame,
    trivial, memory_attention, trivial, prompt_projection, trivial, memory_projection, trivial, sample_projection,
    trivial, output_projection, trivial, mixture_of_experts⟩

end Cert.Proof

end
